-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_started [hPre_finite_and_started : Cert.Pre_finite_and_started.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_started.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_and_started.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_and_started.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_and_started.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_started [hPre_finite_and_started : Cert.Pre_finite_and_started.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_started.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_and_started.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_and_started.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_and_started.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_started [hKernelIdeal : Cert.KernelIdeal.Facts] [hPre_finite_and_started : Cert.Pre_finite_and_started.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_started m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_started [hReferenceIdeal : Cert.ReferenceIdeal.Facts] [hPre_finite_and_started : Cert.Pre_finite_and_started.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_started m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "lr_decay" .f32 0x3727C5AC#32 ((1 / 100000 : ℝ) : EReal)

def preserves_Reference_ReferenceIdeal : Prop :=
  IdealRules.named_const.Statement Cert.ReferenceIdeal.κ "decay" .f32 0x3C23D70A#32 ((268435456 / 26843546875 : ℝ) : EReal)

def algebraic_KernelIdeal_ReferenceIdeal_pre_finite_and_started [hKernelIdeal : Cert.KernelIdeal.Facts] [hReferenceIdeal : Cert.ReferenceIdeal.Facts] [hPre_finite_and_started : Cert.Pre_finite_and_started.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_started m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hPre_finite_and_started : Cert.Pre_finite_and_started.Facts),
    quiescent_Kernel (hKernel := hKernel)
    ∧ quiescent_KernelIdeal (hKernelIdeal := hKernelIdeal)
    ∧ quiescent_KernelIdeal_pre_finite_and_started (hKernelIdeal := hKernelIdeal) (hPre_finite_and_started := hPre_finite_and_started)
    ∧ quiescent_ReferenceIdeal (hReferenceIdeal := hReferenceIdeal)
    ∧ quiescent_ReferenceIdeal_pre_finite_and_started (hReferenceIdeal := hReferenceIdeal) (hPre_finite_and_started := hPre_finite_and_started)
    ∧ quiescent_Reference (hReference := hReference)
    ∧ preserves_Kernel_KernelIdeal
    ∧ preserves_Reference_ReferenceIdeal
    ∧ algebraic_KernelIdeal_ReferenceIdeal_pre_finite_and_started (hKernelIdeal := hKernelIdeal) (hReferenceIdeal := hReferenceIdeal) (hPre_finite_and_started := hPre_finite_and_started)
-- ==== Pre_finite_and_started.lean ====
abbrev S11264x4096 : Shape := ⟨2, ![11264, 4096]⟩
abbrev S11264x32 : Shape := ⟨2, ![11264, 32]⟩
abbrev S_ : Shape := ⟨0, ![]⟩

class Facts : Prop where
  bcast_S_S11264x4096 : S_.BroadcastsInDim S11264x4096 (![] : Fin 0 → Fin S11264x4096.rank)
  bcast_S_S11264x32 : S_.BroadcastsInDim S11264x32 (![] : Fin 0 → Fin S11264x32.rank)

variable [Facts]

def fn {F : FTy → Type} [FloatOps F] (main_arg0 : FVec F S11264x4096 .f32) (main_arg1 : FVec F S11264x4096 .bf16) (main_arg2 : FVec F S11264x4096 .fp8e4m3) (main_arg3 : FVec F S11264x32 .f32) (main_arg4 : FVec F S11264x4096 .fp8e5m2) (main_arg5 : FVec F S11264x32 .f32) (main_arg6 : IVec S_ 32) : IVec S11264x4096 1 × IVec S11264x32 1 × IVec S11264x32 1 × IVec S_ 1 :=
  let main_v0 : FVec F S11264x4096 .f32 := Host.absf main_arg0
  let main_cst : FVec F S_ .f32 := constant S_ .f32 0x7F800000#32
  let main_v1 : FVec F S11264x4096 .f32 := broadcastInDim S11264x4096 ![] bcast_S_S11264x4096 main_cst
  let main_v2 : IVec S11264x4096 1 := cmpf .olt main_v0 main_v1
  let main_v3 : FVec F S11264x32 .f32 := Host.absf main_arg3
  let main_cst_0 : FVec F S_ .f32 := constant S_ .f32 0x7F800000#32
  let main_v4 : FVec F S11264x32 .f32 := broadcastInDim S11264x32 ![] bcast_S_S11264x32 main_cst_0
  let main_v5 : IVec S11264x32 1 := cmpf .olt main_v3 main_v4
  let main_v6 : FVec F S11264x32 .f32 := Host.absf main_arg5
  let main_cst_1 : FVec F S_ .f32 := constant S_ .f32 0x7F800000#32
  let main_v7 : FVec F S11264x32 .f32 := broadcastInDim S11264x32 ![] bcast_S_S11264x32 main_cst_1
  let main_v8 : IVec S11264x32 1 := cmpf .olt main_v6 main_v7
  let main_c : IVec S_ 32 := constantI S_ 32 1#32
  let main_v9 : IVec S_ 1 := cmpi .sge main_arg6 main_c
  (main_v2, main_v5, main_v8, main_v9)
-- ==== Kernel.lean ====
abbrev S11264x4096 : Shape := ⟨2, ![11264, 4096]⟩
abbrev S11264x32 : Shape := ⟨2, ![11264, 32]⟩
abbrev S_ : Shape := ⟨0, ![]⟩
abbrev S1 : Shape := ⟨1, ![1]⟩
abbrev S32x11264 : Shape := ⟨2, ![32, 11264]⟩
abbrev S128x4096 : Shape := ⟨2, ![128, 4096]⟩
abbrev S32x128 : Shape := ⟨2, ![32, 128]⟩
abbrev S128x128 : Shape := ⟨2, ![128, 128]⟩
abbrev S64x4096 : Shape := ⟨2, ![64, 4096]⟩
abbrev S8x128 : Shape := ⟨2, ![8, 128]⟩
abbrev S1x1 : Shape := ⟨2, ![1, 1]⟩
abbrev S128x256 : Shape := ⟨2, ![128, 256]⟩
abbrev S128 : Shape := ⟨1, ![128]⟩
abbrev S128x1 : Shape := ⟨2, ![128, 1]⟩
abbrev S128x64 : Shape := ⟨2, ![128, 64]⟩
abbrev S64x256 : Shape := ⟨2, ![64, 256]⟩

abbrev nBuf : Space → Nat
  | .hbm => 15
  | .vmem => 29
  | .smem => 1
  | _ => 0

abbrev bufTy : (tb : Table) → Fin (tcTables nBuf tb) → BufTy
  | .hbm, ⟨0, _⟩ => ⟨S11264x4096, .f32⟩
  | .hbm, ⟨1, _⟩ => ⟨S11264x4096, .bf16⟩
  | .hbm, ⟨2, _⟩ => ⟨S11264x4096, .fp8e4m3⟩
  | .hbm, ⟨3, _⟩ => ⟨S11264x32, .f32⟩
  | .hbm, ⟨4, _⟩ => ⟨S11264x4096, .fp8e5m2⟩
  | .hbm, ⟨5, _⟩ => ⟨S11264x32, .f32⟩
  | .hbm, ⟨6, _⟩ => ⟨S_, .i32⟩
  | .hbm, ⟨7, _⟩ => ⟨S1, .i32⟩
  | .hbm, ⟨8, _⟩ => ⟨S32x11264, .f32⟩
  | .hbm, ⟨9, _⟩ => ⟨S32x11264, .f32⟩
  | .hbm, ⟨10, _⟩ => ⟨S11264x4096, .f32⟩
  | .hbm, ⟨11, _⟩ => ⟨S11264x4096, .fp8e4m3⟩
  | .hbm, ⟨12, _⟩ => ⟨S32x11264, .f32⟩
  | .hbm, ⟨13, _⟩ => ⟨S11264x4096, .fp8e5m2⟩
  | .hbm, ⟨14, _⟩ => ⟨S32x11264, .f32⟩
  | .local _ .vmem, ⟨0, _⟩ => ⟨S128x4096, .f32⟩
  | .local _ .vmem, ⟨1, _⟩ => ⟨S128x4096, .f32⟩
  | .local _ .vmem, ⟨2, _⟩ => ⟨S128x4096, .bf16⟩
  | .local _ .vmem, ⟨3, _⟩ => ⟨S128x4096, .bf16⟩
  | .local _ .vmem, ⟨4, _⟩ => ⟨S128x4096, .fp8e4m3⟩
  | .local _ .vmem, ⟨5, _⟩ => ⟨S128x4096, .fp8e4m3⟩
  | .local _ .vmem, ⟨6, _⟩ => ⟨S32x128, .f32⟩
  | .local _ .vmem, ⟨7, _⟩ => ⟨S32x128, .f32⟩
  | .local _ .vmem, ⟨8, _⟩ => ⟨S128x4096, .fp8e5m2⟩
  | .local _ .vmem, ⟨9, _⟩ => ⟨S128x4096, .fp8e5m2⟩
  | .local _ .vmem, ⟨10, _⟩ => ⟨S32x128, .f32⟩
  | .local _ .vmem, ⟨11, _⟩ => ⟨S32x128, .f32⟩
  | .local _ .vmem, ⟨12, _⟩ => ⟨S128x4096, .f32⟩
  | .local _ .vmem, ⟨13, _⟩ => ⟨S128x4096, .f32⟩
  | .local _ .vmem, ⟨14, _⟩ => ⟨S128x4096, .fp8e4m3⟩
  | .local _ .vmem, ⟨15, _⟩ => ⟨S128x4096, .fp8e4m3⟩
  | .local _ .vmem, ⟨16, _⟩ => ⟨S32x128, .f32⟩
  | .local _ .vmem, ⟨17, _⟩ => ⟨S32x128, .f32⟩
  | .local _ .vmem, ⟨18, _⟩ => ⟨S128x4096, .fp8e5m2⟩
  | .local _ .vmem, ⟨19, _⟩ => ⟨S128x4096, .fp8e5m2⟩
  | .local _ .vmem, ⟨20, _⟩ => ⟨S32x128, .f32⟩
  | .local _ .vmem, ⟨21, _⟩ => ⟨S32x128, .f32⟩
  | .local _ .vmem, ⟨22, _⟩ => ⟨S128x4096, .f32⟩
  | .local _ .vmem, ⟨23, _⟩ => ⟨S128x4096, .f32⟩
  | .local _ .vmem, ⟨24, _⟩ => ⟨S128x128, .f32⟩
  | .local _ .vmem, ⟨25, _⟩ => ⟨S128x4096, .bf16⟩
  | .local _ .vmem, ⟨26, _⟩ => ⟨S128x4096, .bf16⟩
  | .local _ .vmem, ⟨27, _⟩ => ⟨S64x4096, .bf16⟩
  | .local _ .vmem, ⟨28, _⟩ => ⟨S64x4096, .bf16⟩
  | .local _ .smem, ⟨0, _⟩ => ⟨S1, .i32⟩
  | _, _ => ⟨S11264x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![88], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "lr_decay" => some ((1 / 100000 : ℝ) : EReal)
  | _ => none
-- ==== ReferenceIdeal.lean ====
variable {F : FTy → Type} [FloatOps F] [Named F]
def κ : String → Option EReal := fun
  | "decay" => some ((268435456 / 26843546875 : ℝ) : EReal)
  | _ => none
-- ==== Reference.lean ====
abbrev S11264x4096 : Shape := ⟨2, ![11264, 4096]⟩
abbrev S11264x32 : Shape := ⟨2, ![11264, 32]⟩
abbrev S_ : Shape := ⟨0, ![]⟩
abbrev S1 : Shape := ⟨1, ![1]⟩
abbrev S32x11264 : Shape := ⟨2, ![32, 11264]⟩
abbrev S11264x32x128 : Shape := ⟨3, ![11264, 32, 128]⟩
abbrev S11264x32x1 : Shape := ⟨3, ![11264, 32, 1]⟩
abbrev S1x1x1 : Shape := ⟨3, ![1, 1, 1]⟩

abbrev nBuf : Space → Nat
  | .hbm => 13
  | .vmem => 11
  | .smem => 1
  | _ => 0

abbrev bufTy : (tb : Table) → Fin (tcTables nBuf tb) → BufTy
  | .hbm, ⟨0, _⟩ => ⟨S11264x4096, .f32⟩
  | .hbm, ⟨1, _⟩ => ⟨S11264x4096, .bf16⟩
  | .hbm, ⟨2, _⟩ => ⟨S11264x4096, .fp8e4m3⟩
  | .hbm, ⟨3, _⟩ => ⟨S11264x32, .f32⟩
  | .hbm, ⟨4, _⟩ => ⟨S11264x4096, .fp8e5m2⟩
  | .hbm, ⟨5, _⟩ => ⟨S11264x32, .f32⟩
  | .hbm, ⟨6, _⟩ => ⟨S_, .i32⟩
  | .hbm, ⟨7, _⟩ => ⟨S1, .i32⟩
  | .hbm, ⟨8, _⟩ => ⟨S11264x4096, .f32⟩
  | .hbm, ⟨9, _⟩ => ⟨S11264x4096, .fp8e4m3⟩
  | .hbm, ⟨10, _⟩ => ⟨S32x11264, .f32⟩
  | .hbm, ⟨11, _⟩ => ⟨S11264x4096, .fp8e5m2⟩
  | .hbm, ⟨12, _⟩ => ⟨S32x11264, .f32⟩
  | .local _ .vmem, ⟨0, _⟩ => ⟨S11264x4096, .f32⟩
  | .local _ .vmem, ⟨1, _⟩ => ⟨S11264x4096, .bf16⟩
  | .local _ .vmem, ⟨2, _⟩ => ⟨S11264x4096, .fp8e4m3⟩
  | .local _ .vmem, ⟨3, _⟩ => ⟨S11264x32, .f32⟩
  | .local _ .vmem, ⟨4, _⟩ => ⟨S11264x4096, .fp8e5m2⟩
  | .local _ .vmem, ⟨5, _⟩ => ⟨S11264x32, .f32⟩
  | .local _ .vmem, ⟨6, _⟩ => ⟨S11264x4096, .f32⟩
  | .local _ .vmem, ⟨7, _⟩ => ⟨S11264x4096, .fp8e4m3⟩
  | .local _ .vmem, ⟨8, _⟩ => ⟨S32x11264, .f32⟩
  | .local _ .vmem, ⟨9, _⟩ => ⟨S11264x4096, .fp8e5m2⟩
  | .local _ .vmem, ⟨10, _⟩ => ⟨S32x11264, .f32⟩
  | .local _ .smem, ⟨0, _⟩ => ⟨S1, .i32⟩
  | _, _ => ⟨S11264x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S11264x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11264x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11264x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11264x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11264x4096 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S11264x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S11264x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S11264x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x11264 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S11264x4096 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x11264 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Consts.lean ====
/-
  What the f32 patterns of the two programs denote at the ideal instance: the literals, and the pattern of a
  power of two (an exponent field `n` over a zero significand).
-/
module

public import Idealize.ShloMosaic.PureOps.Ideal

@[expose] public section

noncomputable section

open Idealize.ShloMosaic

namespace Cert.Adam

/-- The reading of an f32 pattern. -/
abbrev lit (b : BitVec 32) : EReal := Ideal.ofBits .f32 b

/-- Closes the reading of one literal pattern. -/
theorem lit_zero : lit 0x00000000#32 = 0 := by
  simp [lit, Ideal.ofBits, Ideal.ieee, -EReal.coe_mul]

theorem lit_one : lit 0x3F800000#32 = 1 := by
  simp [lit, Ideal.ofBits, Ideal.ieee, -EReal.coe_mul]; norm_num

theorem lit_two : lit 0x40000000#32 = ((2 : ℝ) : EReal) := by
  simp [lit, Ideal.ofBits, Ideal.ieee, -EReal.coe_mul]; norm_num

theorem lit_neg_inf : lit 0xFF800000#32 = ⊥ := by
  simp [lit, Ideal.ofBits, Ideal.ieee, -EReal.coe_mul]

/-- The first moment's decay rate, rounded to f32. -/
def beta1 : ℝ := 15099494 / 16777216
/-- The second moment's decay rate, rounded to f32. -/
def beta2 : ℝ := 16760439 / 16777216

theorem lit_beta1 : lit 0x3F666666#32 = (beta1 : EReal) := by
  simp [lit, Ideal.ofBits, Ideal.ieee, -EReal.coe_mul, beta1]; norm_num

theorem lit_beta2 : lit 0x3F7FBE77#32 = (beta2 : EReal) := by
  simp [lit, Ideal.ofBits, Ideal.ieee, -EReal.coe_mul, beta2]; norm_num

/-- The divisor's offset, rounded to f32. -/
def eps : ℝ := 11258999 / 1125899906842624

theorem lit_eps : lit 0x322BCC77#32 = (eps : EReal) := by
  simp [lit, Ideal.ofBits, Ideal.ieee, -EReal.coe_mul, eps]; norm_num

theorem beta1_pos : 0 < beta1 := by norm_num [beta1]
theorem beta1_lt_one : beta1 < 1 := by norm_num [beta1]
theorem beta2_pos : 0 < beta2 := by norm_num [beta2]
theorem beta2_lt_one : beta2 < 1 := by norm_num [beta2]
theorem eps_pos : 0 < eps := by norm_num [eps]

/-! The three bf16 pieces of each decay rate. -/

def beta1a : ℝ := 230 / 256
def beta1b : ℝ := 205 / 131072
def beta1c : ℝ := -(208 / 134217728)

theorem lit_beta1a : lit 0x3F660000#32 = (beta1a : EReal) := by
  simp [lit, Ideal.ofBits, Ideal.ieee, -EReal.coe_mul, beta1a]; norm_num

theorem lit_beta1b : lit 0x3ACD0000#32 = (beta1b : EReal) := by
  simp [lit, Ideal.ofBits, Ideal.ieee, -EReal.coe_mul, beta1b]; norm_num

theorem lit_beta1c : lit 0xB5D00000#32 = (beta1c : EReal) := by
  simp [lit, Ideal.ofBits, Ideal.ieee, -EReal.coe_mul, beta1c]; norm_num

theorem beta1_pieces : beta1a + beta1b + beta1c = beta1 := by
  norm_num [beta1a, beta1b, beta1c, beta1]

def beta2b : ℝ := -(131 / 131072)
def beta2c : ℝ := -(9 / 16777216)

theorem lit_beta2b : lit 0xBA830000#32 = (beta2b : EReal) := by
  simp [lit, Ideal.ofBits, Ideal.ieee, -EReal.coe_mul, beta2b]; norm_num

theorem lit_beta2c : lit 0xB5100000#32 = (beta2c : EReal) := by
  simp [lit, Ideal.ofBits, Ideal.ieee, -EReal.coe_mul, beta2c]; norm_num

theorem beta2_pieces : 1 + beta2b + beta2c = beta2 := by
  norm_num [beta2b, beta2c, beta2]

/-- The pattern of exponent field `n` over a zero significand. -/
def pat (n : ℕ) : BitVec 32 := BitVec.ofNat 32 (n * 2 ^ 23)

theorem pat_fields : ∀ n : Fin 256, (pat n).extractLsb' 31 1 = 0#1 ∧ ((pat n).extractLsb' 23 8).toNat = n
    ∧ ((pat n).extractLsb' 0 23).toNat = 0 := by decide +kernel

theorem lit_pat (n : ℕ) (h : 0 < n) (h' : n < 255) : lit (pat n) = (((2 : ℝ) ^ ((n : ℤ) - 127) : ℝ) : EReal) := by
  obtain ⟨h1, h2, h3⟩ := pat_fields ⟨n, by omega⟩
  simp only [] at h1 h2 h3
  show Ideal.ieee 8 23 (pat n) = _
  unfold Ideal.ieee
  simp only [h1, h2, h3]
  rw [if_neg (by omega), if_neg (by omega)]
  congr 1
  rw [if_neg (by decide)]
  have : ((2 ^ 23 + 0 : ℕ) : ℝ) = (2 : ℝ) ^ (23 : ℤ) := by norm_num
  rw [this, one_mul, ← zpow_add₀ (by norm_num : (2 : ℝ) ≠ 0)]
  congr 1
  norm_num

theorem lit_pat_zero : lit (pat 0) = 0 := lit_zero

theorem lit_pat_top : lit (pat 255) = ⊤ := by
  show lit 0x7F800000#32 = ⊤
  simp [lit, Ideal.ofBits, Ideal.ieee, -EReal.coe_mul]

end Cert.Adam
-- ==== Proof.Scale.lean ====
/-
  The power-of-two scale of a group, over the extended reals: the kernel's exponent search and its bit arithmetic
  against the reference's `floor (log2 x) + 1`.

  `x` is the group's largest magnitude times the reciprocal of the format's largest value. The kernel finds the
  exponent field of `x` bit by bit, highest first, comparing `x` with the f32 number of each trial pattern.
-/
module

public import proofs.«01_k».proof.Proof.Consts

@[expose] public section

noncomputable section

open Idealize.ShloMosaic

namespace Cert.Adam

theorem select_one {α : Type} (a b : α) : Scalar.select 1#1 a b = a := rfl
theorem select_zero {α : Type} (a b : α) : Scalar.select 0#1 a b = b := rfl

/-! ### The search -/

/-- One step of the search: the bit `b` is kept when `x` is at least the number of the trial pattern. -/
def step (x : EReal) (b f : BitVec 32) : BitVec 32 :=
  Scalar.select (Ideal.cmp .oge x (lit (f + b))) (f + b) f

/-- The exponent field of `x`, in place, by eight steps; all ones from `2 ^ 126` up. -/
def field (x : EReal) : BitVec 32 :=
  Scalar.select (Ideal.cmp .olt x (lit 0x7E800000#32))
    (step x 8388608#32 (step x 16777216#32 (step x 33554432#32 (step x 67108864#32 (step x 134217728#32
      (step x 268435456#32 (step x 536870912#32 (step x 1073741824#32 0#32))))))))
    2139095040#32

/-- Zero or all ones: no normal number below `2 ^ 126`. -/
def isUnit (x : EReal) : BitVec 1 :=
  IntOp.ori (IntOp.cmpi .eq (field x) 0#32) (IntOp.cmpi .eq (field x) 2139095040#32)

/-- The kernel's scale. -/
def kScale (x : EReal) : EReal := Scalar.select (isUnit x) (lit 0x3F800000#32) (lit (field x + 8388608#32))

/-- The kernel's inverse scale. -/
def kInv (x : EReal) : EReal := Scalar.select (isUnit x) (lit 0x3F800000#32) (lit (2122317824#32 - field x))

/-- The number of the pattern with field `n`, from 256 up out of reach. -/
def Below (x : EReal) (n : ℕ) : Prop := 256 ≤ n ∨ x < lit (pat n)

/-- What the search keeps: `n` is a field reached so far, and adding `B` would be too much. -/
def Inv (x : EReal) (n B : ℕ) : Prop := (n = 0 ∨ lit (pat n) ≤ x) ∧ n < 256 ∧ Below x (n + B)

theorem pat_zero : 0x00000000#32 = pat 0 := by decide
theorem pat_1 : 0x00800000#32 = pat 1 := by decide
theorem pat_253 : 0x7E800000#32 = pat 253 := by decide
theorem pat_255 : 0x7F800000#32 = pat 255 := by decide

theorem pat_add (n b : ℕ) : pat n + pat b = pat (n + b) := by
  simp only [pat, ← BitVec.ofNat_add, Nat.add_mul]

theorem step_inv {x : EReal} {n B b : ℕ} (hB : B = 2 * b) (hn : n + b < 256) (h : Inv x n B) :
    ∃ n', step x (pat b) (pat n) = pat n' ∧ Inv x n' b ∧ (n' = n ∨ n' = n + b) := by
  obtain ⟨h1, h2, h3⟩ := h
  by_cases hc : lit (pat (n + b)) ≤ x
  · refine ⟨n + b, ?_, ⟨.inr hc, hn, ?_⟩, .inr rfl⟩
    · simp [step, Scalar.select, Ideal.cmp, pat_add, hc]
    · have : n + b + b = n + B := by omega
      rw [this]; exact h3
  · refine ⟨n, ?_, ⟨h1, h2, .inr (not_le.mp hc)⟩, .inl rfl⟩
    simp [step, Scalar.select, Ideal.cmp, pat_add, hc]

/-- The search ends at a field `n` with `2 ^ (n - 127) ≤ x < 2 ^ (n - 126)` (no lower bound at `n = 0`). -/
theorem search (x : EReal) : ∃ n, step x 8388608#32 (step x 16777216#32 (step x 33554432#32 (step x 67108864#32
    (step x 134217728#32 (step x 268435456#32 (step x 536870912#32 (step x 1073741824#32 0#32))))))) = pat n
    ∧ Inv x n 1 := by
  have h0 : Inv x 0 256 := ⟨.inl rfl, by omega, .inl (by omega)⟩
  obtain ⟨n1, e1, i1, d1⟩ := step_inv (b := 128) (by omega) (by omega) h0
  obtain ⟨n2, e2, i2, d2⟩ := step_inv (b := 64) (by omega) (by omega) i1
  obtain ⟨n3, e3, i3, d3⟩ := step_inv (b := 32) (by omega) (by omega) i2
  obtain ⟨n4, e4, i4, d4⟩ := step_inv (b := 16) (by omega) (by omega) i3
  obtain ⟨n5, e5, i5, d5⟩ := step_inv (b := 8) (by omega) (by omega) i4
  obtain ⟨n6, e6, i6, d6⟩ := step_inv (b := 4) (by omega) (by omega) i5
  obtain ⟨n7, e7, i7, d7⟩ := step_inv (b := 2) (by omega) (by omega) i6
  obtain ⟨n8, e8, i8, d8⟩ := step_inv (b := 1) (by omega) (by omega) i7
  refine ⟨n8, ?_, i8⟩
  rw [← e8, ← e7, ← e6, ← e5, ← e4, ← e3, ← e2, ← e1]
  rfl

/-! ### The reference's scale -/

/-- `floor (log2 x) + 1`. -/
def refExp (x : EReal) : EReal :=
  Ideal.liftRound Int.floor (Ideal.div (Ideal.log x) (Ideal.log (lit 0x40000000#32))) + lit 0x3F800000#32

/-- `x` is a normal number below `2 ^ 126`. -/
def isNormal (x : EReal) : BitVec 1 :=
  IntOp.andi (Ideal.cmp .oge x (lit 0x00800000#32)) (Ideal.cmp .olt x (lit 0x7E800000#32))

def refScale (x : EReal) : EReal := Scalar.select (isNormal x) (Ideal.exp2 (refExp x)) (lit 0x3F800000#32)

def refInv (x : EReal) : EReal :=
  Scalar.select (isNormal x) (Ideal.exp2 (lit 0x00000000#32 - refExp x)) (lit 0x3F800000#32)

theorem refExp_eq {r : ℝ} {k : ℤ} (h1 : (2 : ℝ) ^ k ≤ r) (h2 : r < (2 : ℝ) ^ (k + 1)) :
    refExp (r : EReal) = ((k + 1 : ℝ) : EReal) := by
  have hp : (0 : ℝ) < (2 : ℝ) ^ k := by positivity
  have hr : 0 < r := lt_of_lt_of_le hp h1
  have hl : (0 : ℝ) < Real.log 2 := Real.log_pos (by norm_num)
  have hf : ⌊Real.log r * (1 / Real.log 2)⌋ = k := by
    rw [Int.floor_eq_iff]
    constructor
    · rw [mul_one_div, le_div_iff₀ hl, ← Real.log_zpow]
      exact Real.log_le_log hp h1
    · rw [mul_one_div, div_lt_iff₀ hl]
      have := Real.log_lt_log hr h2
      rw [Real.log_zpow] at this
      exact_mod_cast this
  unfold refExp
  rw [lit_two, lit_one, Ideal.log_coe, Ideal.log_coe, if_neg (not_le.mpr hr), if_neg (by norm_num),
    Ideal.div_coe hl.ne', ← EReal.coe_mul, Ideal.liftRound_coe, hf]
  norm_cast

theorem exp2_int (k : ℤ) : Ideal.exp2 ((k : ℝ) : EReal) = (((2 : ℝ) ^ k : ℝ) : EReal) := by
  rw [Ideal.exp2_coe]
  congr 1
  exact Real.rpow_intCast 2 k

theorem pat_inj {a b : ℕ} (ha : a < 256) (hb : b < 256) (h : pat a = pat b) : a = b := by
  have h1 := (pat_fields ⟨a, ha⟩).2.1
  have h2 := (pat_fields ⟨b, hb⟩).2.1
  simp only at h1 h2
  rw [← h1, ← h2, h]

theorem pat_sub (n : ℕ) (h : n ≤ 253) : pat 253 - pat n = pat (253 - n) := by
  have e : pat 253 = pat (253 - n) + pat n := by rw [pat_add, Nat.sub_add_cancel h]
  rw [e, BitVec.add_sub_cancel]

theorem lit_pat_mono {a b : ℕ} (h0 : 0 < a) (h : a ≤ b) (hb : b < 255) : lit (pat a) ≤ lit (pat b) := by
  rw [lit_pat a h0 (by omega), lit_pat b (by omega) hb, EReal.coe_le_coe_iff]
  exact zpow_le_zpow_right₀ (by norm_num) (by omega)

theorem olt_true {x : EReal} (h : x < lit (pat 253)) : Ideal.cmp .olt x (lit 0x7E800000#32) = 1#1 := by
  simp only [Ideal.cmp]
  rw [pat_253, decide_eq_true h]; rfl

theorem olt_false {x : EReal} (h : ¬ x < lit (pat 253)) : Ideal.cmp .olt x (lit 0x7E800000#32) = 0#1 := by
  simp only [Ideal.cmp]
  rw [pat_253, decide_eq_false h]; rfl

theorem oge_true {x : EReal} (h : lit (pat 1) ≤ x) : Ideal.cmp .oge x (lit 0x00800000#32) = 1#1 := by
  simp only [Ideal.cmp]
  rw [pat_1, decide_eq_true h]; rfl

theorem oge_false {x : EReal} (h : x < lit (pat 1)) : Ideal.cmp .oge x (lit 0x00800000#32) = 0#1 := by
  simp only [Ideal.cmp]
  rw [pat_1, decide_eq_false (not_le.mpr h)]; rfl

/-- Below `2 ^ 126` the search stops below field 253. -/
theorem field_eq {x : EReal} (hx : x < lit (pat 253)) :
    ∃ n, field x = pat n ∧ n ≤ 252 ∧ (n = 0 ∨ lit (pat n) ≤ x) ∧ x < lit (pat (n + 1)) := by
  obtain ⟨n, e, h1, h2, h3⟩ := search x
  have hn : n ≤ 252 := by
    rcases h1 with h1 | h1
    · omega
    · by_contra hc
      rcases Nat.lt_or_ge n 255 with h | h
      · exact absurd (lt_of_lt_of_le hx (lit_pat_mono (by omega) (by omega) h)) (not_lt.mpr h1)
      · have : n = 255 := by omega
        subst this
        rw [lit_pat_top, top_le_iff] at h1
        rw [h1] at hx
        exact absurd hx not_top_lt
  refine ⟨n, ?_, hn, h1, h3.resolve_left (by omega)⟩
  unfold field
  rw [e, olt_true hx, select_one]

theorem isUnit_pos {x : EReal} {n : ℕ} (hf : field x = pat n) (h0 : 0 < n) (hn : n ≤ 252) : isUnit x = 0#1 := by
  have a1 : (pat n == pat 0) = false := by
    rw [beq_eq_false_iff_ne]
    exact fun h => absurd (pat_inj (by omega) (by omega) h) (by omega)
  have a2 : (pat n == pat 255) = false := by
    rw [beq_eq_false_iff_ne]
    exact fun h => absurd (pat_inj (by omega) (by omega) h) (by omega)
  unfold isUnit
  rw [hf, pat_zero, pat_255]
  simp only [IntOp.cmpi, a1, a2]; rfl

/-- A unit scale on both sides. -/
theorem scale_unit {x : EReal} (hN : isNormal x = 0#1) (hU : isUnit x = 1#1) :
    kScale x = refScale x ∧ kInv x = refInv x := by
  unfold kScale kInv refScale refInv
  rw [hN, hU]
  exact ⟨(select_one _ _).trans (select_zero _ _).symm, (select_one _ _).trans (select_zero _ _).symm⟩

/-- The pattern one field up is the power of two above `x`. -/
theorem pow_up {n : ℕ} (h0 : 0 < n) (hn : n ≤ 252) :
    lit (pat n + 8388608#32) = Ideal.exp2 ((((n : ℤ) - 126 : ℤ) : ℝ) : EReal) := by
  have e : pat n + 8388608#32 = pat (n + 1) := (congrArg (pat n + ·) pat_1).trans (pat_add n 1)
  have e2 : (((n + 1 : ℕ) : ℤ) - 127 : ℤ) = (n : ℤ) - 126 := by omega
  rw [e, lit_pat (n + 1) (by omega) (by omega), exp2_int, e2]

/-- The mirrored pattern is its inverse. -/
theorem pow_down {n : ℕ} (h0 : 0 < n) (hn : n ≤ 252) :
    lit (2122317824#32 - pat n) = Ideal.exp2 (lit 0x00000000#32 - ((((n : ℤ) - 126 : ℤ) : ℝ) : EReal)) := by
  have e : 2122317824#32 - pat n = pat (253 - n) := (congrArg (· - pat n) pat_253).trans (pat_sub n (by omega))
  have e2 : (((253 - n : ℕ) : ℤ) - 127 : ℤ) = -((n : ℤ) - 126) := by omega
  have e3 : lit 0x00000000#32 - ((((n : ℤ) - 126 : ℤ) : ℝ) : EReal) = (((-((n : ℤ) - 126) : ℤ) : ℝ) : EReal) := by
    rw [lit_zero, zero_sub, ← EReal.coe_neg, ← Int.cast_neg]
  rw [e, lit_pat (253 - n) (by omega) (by omega), e3, exp2_int, e2]

/-- A power of two on both sides. -/
theorem scale_pow {x : EReal} {n : ℕ} (hf : field x = pat n) (h0 : 0 < n) (hn : n ≤ 252)
    (hle : lit (pat n) ≤ x) (hu : x < lit (pat (n + 1))) (hx : x < lit (pat 253)) :
    kScale x = refScale x ∧ kInv x = refInv x := by
  have hN : isNormal x = 1#1 := by
    unfold isNormal
    rw [olt_true hx, oge_true ((lit_pat_mono (by omega) h0 (by omega)).trans hle)]; rfl
  rw [lit_pat n h0 (by omega)] at hle
  rw [lit_pat (n + 1) (by omega) (by omega)] at hu
  have hreal : ∃ r : ℝ, x = (r : EReal) :=
    ⟨x.toReal, (EReal.coe_toReal (fun h => by rw [h] at hu; exact absurd hu not_top_lt)
      (fun h => by rw [h] at hle; exact absurd (EReal.bot_lt_coe _) (not_lt.mpr hle))).symm⟩
  have he : refExp x = ((((n : ℤ) - 126 : ℤ) : ℝ) : EReal) := by
    obtain ⟨r, rfl⟩ := hreal
    rw [EReal.coe_le_coe_iff] at hle
    rw [EReal.coe_lt_coe_iff] at hu
    rw [refExp_eq (k := (n : ℤ) - 127) hle (by convert hu using 2; push_cast; ring)]
    congr 1; push_cast; ring
  unfold kScale kInv refScale refInv
  rw [hN, isUnit_pos hf h0 hn, hf, he]
  exact ⟨(select_zero _ _).trans ((pow_up h0 hn).trans (select_one _ _).symm),
    (select_zero _ _).trans ((pow_down h0 hn).trans (select_one _ _).symm)⟩

/-- The kernel's scale and inverse are the reference's, at every extended real. -/
theorem scale_inv (x : EReal) : kScale x = refScale x ∧ kInv x = refInv x := by
  by_cases hx : x < lit (pat 253)
  · obtain ⟨n, hf, hn, h1, hu⟩ := field_eq hx
    rcases Nat.eq_zero_or_pos n with h0 | h0
    · rw [h0] at hu hf
      refine scale_unit ?_ ?_
      · unfold isNormal
        rw [olt_true hx, oge_false hu]; rfl
      · unfold isUnit; rw [hf, ← pat_zero]; decide
    · exact scale_pow hf h0 hn (h1.resolve_left (by omega)) hu hx
  · have hF : field x = 2139095040#32 := by unfold field; rw [olt_false hx, select_zero]
    refine scale_unit ?_ ?_
    · unfold isNormal
      rw [olt_false hx]; exact BitVec.and_zero
    · unfold isUnit; rw [hF]; decide

end Cert.Adam
-- ==== Proof.Spread.lean ====
/-
  The kernel's spreading matrices: a column's group has its rate's three bf16 pieces at rows `g`, `g + 32`, `g + 64`
  and zeros elsewhere, so a dot product with three copies of the scales is the group's scale times the rate.
-/
module

public import proofs.«01_k».proof.Proof.Gen.KernelIdeal.Skeleton
public import proofs.«01_k».proof.Proof.Scale
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.Adam

/-- The group of a column, as the floor division of its signed 32-bit index by 128. -/
def groupWord (c : BitVec 32) : BitVec 32 :=
  Scalar.select
    (IntOp.andi
      (IntOp.cmpi CmpIPredicate.ne
        (IntOp.subi (BitVec.setWidth 32 (IntOp.cmpi CmpIPredicate.sgt c 0#32))
          (BitVec.setWidth 32 (IntOp.cmpi CmpIPredicate.slt c 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector c 128#32) 0#32))
    (IntOp.subi (IntOp.divsi ArithUnit.vector c 128#32) 1#32)
    (IntOp.divsi ArithUnit.vector c 128#32)

theorem groupWord_eq : ∀ c : Fin 4096, groupWord (BitVec.ofNat 32 c) = BitVec.ofNat 32 (c / 128) := by
  decide +kernel

/-- Whether row `k` is column `c`'s group plus `off`. -/
theorem row_eq {n : ℕ} (hn : n ≤ 128) (k : Fin n) (c : Fin 4096) (off : ℕ) (h : off < 128) :
    IntOp.cmpi CmpIPredicate.eq (BitVec.ofNat 32 k) (IntOp.addi (groupWord (BitVec.ofNat 32 c)) (BitVec.ofNat 32 off))
      = if (k : ℕ) = c / 128 + off then 1 else 0 := by
  have hk := k.isLt
  have hc := c.isLt
  rw [groupWord_eq]
  have e : IntOp.addi (BitVec.ofNat 32 (c / 128)) (BitVec.ofNat 32 off) = BitVec.ofNat 32 (c / 128 + off) := by
    show BitVec.ofNat 32 _ + BitVec.ofNat 32 _ = _
    rw [BitVec.ofNat_add]
  rw [e]
  show BitVec.ofBool (BitVec.ofNat 32 k == BitVec.ofNat 32 (c / 128 + off)) = _
  by_cases hkc : (k : ℕ) = c / 128 + off
  · rw [if_pos hkc, hkc, beq_self_eq_true]; rfl
  · rw [if_neg hkc]
    have : (BitVec.ofNat 32 (k : ℕ) == BitVec.ofNat 32 (c / 128 + off)) = false := by
      rw [beq_eq_false_iff_ne]
      intro h2
      have := congrArg BitVec.toNat h2
      simp only [BitVec.toNat_ofNat] at this
      omega
    rw [this]; rfl

theorem select_ite {α : Type} (p : Prop) [Decidable p] (x y : α) :
    Scalar.select (if p then (1 : BitVec 1) else 0) x y = if p then x else y := by
  by_cases h : p
  · rw [if_pos h, if_pos h]; exact select_one _ _
  · rw [if_neg h, if_neg h]; exact select_zero _ _

/-- The entry of a spreading matrix with three pieces. -/
def spread3 (p q w : EReal) (k c : ℕ) : EReal :=
  if k = c / 128 + 64 then w else if k = c / 128 + 32 then q else if k = c / 128 + 0 then p else 0

/-- The entry of a spreading matrix with one piece at row offset `off`. -/
def spread1 (off k c : ℕ) : EReal := if k = c / 128 + off then 1 else 0

/-- The first decay rate's matrix. -/
theorem em_at (k : Fin 128) (c : Fin 4096) :
    k0_pay3 (F := Ideal) k0_pay2 (ix2 k c)
      = spread3 (lit 0x3F660000#32) (lit 0x3ACD0000#32) (lit 0xB5D00000#32) k c := by
  pointwise [k0_pay3, k0_pay2]
  have h := row_eq le_rfl k c
  simp only [groupWord] at h
  erw [h 64 (by omega), h 32 (by omega), h 0 (by omega)]
  simp only [select_ite]
  rfl

/-- The second decay rate's matrix. -/
theorem ev_at (k : Fin 128) (c : Fin 4096) :
    k0_pay5 (F := Ideal) k0_pay4 (ix2 k c)
      = spread3 1 (lit 0xBA830000#32) (lit 0xB5100000#32) k c := by
  pointwise [k0_pay5, k0_pay4]
  have h := row_eq le_rfl k c
  simp only [groupWord] at h
  erw [h 64 (by omega), h 32 (by omega), h 0 (by omega)]
  simp only [select_ite]
  rfl

/-- The matrix spreading the first moment's inverse scales. -/
theorem im_at (k : Fin 64) (c : Fin 4096) :
    k0_pay6 (F := Ideal) (ix2 k c) = spread1 0 k c := by
  pointwise [k0_pay6]
  have h := row_eq (by omega) k c
  simp only [groupWord] at h
  erw [h 0 (by omega)]
  simp only [select_ite]
  rfl

/-- The matrix spreading the second moment's inverse scales. -/
theorem iv_at (k : Fin 64) (c : Fin 4096) :
    k0_pay8 (F := Ideal) (iota .tc S64x4096 32 [0] iota_S64x4096_d0_w32) (iota .tc S64x4096 32 [1] iota_S64x4096_d1_w32)
      128#32 k0_pay7 (ix2 k c) = spread1 32 k c := by
  pointwise [k0_pay8, k0_pay7]
  have h := row_eq (by omega) k c
  simp only [groupWord] at h
  erw [h 32 (by omega)]
  simp only [select_ite]
  rfl

/-- A dot product with a column of one piece takes one entry. -/
theorem sum_spread1 {n : ℕ} (f : Fin n → EReal) (c off : ℕ) (h : c / 128 + off < n) :
    ∑ k : Fin n, f k * spread1 off k c = f ⟨c / 128 + off, h⟩ := by
  rw [Finset.sum_eq_single ⟨c / 128 + off, h⟩]
  · simp [spread1]
  · intro b _ hb
    have : ¬ (b : ℕ) = c / 128 + off := fun e => hb (Fin.ext e)
    simp [spread1, this]
  · simp

/-- A dot product with a column of three pieces takes three entries. -/
theorem sum_spread3 (f : Fin 128 → EReal) (p q w : EReal) (c : ℕ) (h : c < 4096) :
    ∑ k : Fin 128, f k * spread3 p q w k c
      = f ⟨c / 128, by omega⟩ * p + f ⟨c / 128 + 32, by omega⟩ * q + f ⟨c / 128 + 64, by omega⟩ * w := by
  have e : ∀ k : Fin 128, f k * spread3 p q w k c
      = (if k = ⟨c / 128, by omega⟩ then f k * p else 0) + (if k = ⟨c / 128 + 32, by omega⟩ then f k * q else 0)
        + (if k = ⟨c / 128 + 64, by omega⟩ then f k * w else 0) := by
    intro k
    simp only [spread3, Fin.ext_iff]
    by_cases h1 : (k : ℕ) = c / 128 + 64
    · rw [if_pos h1, if_neg (by omega), if_neg (by omega), if_pos h1]; simp
    · by_cases h2 : (k : ℕ) = c / 128 + 32
      · rw [if_neg h1, if_pos h2, if_neg (by omega), if_pos h2, if_neg h1]; simp
      · by_cases h3 : (k : ℕ) = c / 128
        · rw [if_neg h1, if_neg h2, if_pos (by omega), if_pos h3, if_neg h2, if_neg h1]; simp
        · rw [if_neg h1, if_neg h2, if_neg (by omega), if_neg h3, if_neg h2, if_neg h1]; simp
  rw [Finset.sum_congr rfl fun k _ => e k, Finset.sum_add_distrib, Finset.sum_add_distrib]
  simp

/-- The three copies of the scales, one row per lane. -/
theorem copies_at (s : Vec Ideal S32x128 .f32) (r : Fin 128) (g : ℕ) (hg : g < 32) :
    k0_pay14 (F := Ideal) s (ix2 r ⟨g, by omega⟩) = s (ix2 ⟨g, hg⟩ r)
    ∧ k0_pay14 (F := Ideal) s (ix2 r ⟨g + 32, by omega⟩) = s (ix2 ⟨g, hg⟩ r)
    ∧ k0_pay14 (F := Ideal) s (ix2 r ⟨g + 64, by omega⟩) = s (ix2 ⟨g, hg⟩ r) := by
  have key : ∀ k : Fin 128, k0_pay14 (F := Ideal) s (ix2 r k)
      = if h : (k : ℕ) < 32 then s (ix2 ⟨k, h⟩ r)
        else if h : (k : ℕ) - 32 < 32 then s (ix2 ⟨k - 32, h⟩ r)
        else if h : (k : ℕ) - 32 - 32 < 32 then s (ix2 ⟨k - 32 - 32, h⟩ r) else 0 := by
    intro k
    pointwise [k0_pay14]
  refine ⟨?_, ?_, ?_⟩
  · rw [key, dif_pos (by simpa using hg)]
  · rw [key, dif_neg (by simp), dif_pos (by simpa using hg)]
    simp
  · rw [key, dif_neg (by simp), dif_neg (by simp), dif_pos (by simp; omega)]
    simp only []
    congr 3

/-- A finite scale's three products with a rate's pieces add up to its product with the rate. -/
theorem dot_copies (s : Vec Ideal S32x128 .f32) (hs : ∀ i, ∃ x : ℝ, s i = (x : EReal)) (r : Fin 128) (c : Fin 4096)
    {p q w b : EReal} {p' q' w' b' : ℝ} (hp : p = p') (hq : q = q') (hw : w = w') (hb : b = b') (h : p' + q' + w' = b') :
    ∑ k : Fin 128, k0_pay14 (F := Ideal) s (ix2 r k) * spread3 p q w k c
      = s (ix2 ⟨c / 128, by omega⟩ r) * b := by
  rw [sum_spread3 _ p q w c c.isLt]
  obtain ⟨h1, h2, h3⟩ := copies_at s r (c / 128) (by omega)
  obtain ⟨x, hx⟩ := hs (ix2 ⟨c / 128, by omega⟩ r)
  rw [h1, h2, h3, hx, hp, hq, hw, hb, ← h]
  rw [← EReal.coe_mul, ← EReal.coe_mul, ← EReal.coe_mul, ← EReal.coe_add, ← EReal.coe_add, ← EReal.coe_mul]
  congr 1
  ring

end Cert.Adam
-- ==== Proof.Delta.lean ====
/-
  The parameter update at one element, over the extended reals: the kernel's fused form
  `m * (1 / (1 / rsqrt v + eps * √bc2)) * (-lr * √bc2 / bc1) - (lr * wd) * p` against the reference's
  `-lr * (m / bc1 / (√(v / bc2) + eps) + wd * p)`.
-/
module

public import proofs.«01_k».proof.Proof.Consts

@[expose] public section

noncomputable section

open Idealize.ShloMosaic

namespace Cert.Adam

/-- `1 - β ^ t`. -/
def bc (β : EReal) (t : EReal) : EReal := lit 0x3F800000#32 - Ideal.pow β t

/-- The kernel's update; `ld` is the product of the learning rate and the decay rate. -/
def kDelta (ld m v p t : EReal) : EReal :=
  m * Ideal.div (lit 0x3F800000#32)
      (Ideal.div (lit 0x3F800000#32) (Ideal.rsqrt v) + lit 0x322BCC77#32 * Ideal.sqrt (bc (lit 0x3F7FBE77#32) t))
    * Ideal.div (lit 0xBA83126F#32 * Ideal.sqrt (bc (lit 0x3F7FBE77#32) t)) (bc (lit 0x3F666666#32) t)
    - ld * p

/-- The reference's update; `wd` is the decay rate. -/
def refDelta (wd m v p t : EReal) : EReal :=
  lit 0xBA83126F#32 *
    (Ideal.div (Ideal.div m (bc (lit 0x3F666666#32) t))
        (Ideal.sqrt (Ideal.div v (bc (lit 0x3F7FBE77#32) t)) + lit 0x322BCC77#32)
      + wd * p)

/-- The learning rate, rounded to f32. -/
def lr : ℝ := 8589935 / 8589934592

theorem lr_pos : 0 < lr := by norm_num [lr]

theorem lit_neg_lr : lit 0xBA83126F#32 = ((-lr : ℝ) : EReal) := by
  simp [lit, Ideal.ofBits, Ideal.ieee, -EReal.coe_mul, -EReal.coe_neg, lr]; norm_num

/-- From the first step on the bias correction is a positive real. -/
theorem bc_real {β t : ℝ} (h0 : 0 < β) (h1 : β < 1) (ht : 1 ≤ t) :
    ∃ b : ℝ, 0 < b ∧ bc (β : EReal) (t : EReal) = (b : EReal) := by
  refine ⟨1 - Real.rpow β t, ?_, ?_⟩
  · have : Real.rpow β t < 1 := Real.rpow_lt_one h0.le h1 (by linarith)
    linarith
  · unfold bc
    rw [lit_one, Ideal.pow_coe_coe]; norm_cast

/-- The reciprocal of the reciprocal square root is the square root of the positive part: a nonnegative real, or `⊤`
    on both sides. -/
theorem root_cases (v : EReal) :
    (Ideal.div 1 (Ideal.rsqrt v) = ⊤ ∧ max v 0 = ⊤) ∨
    ∃ r : ℝ, 0 ≤ r ∧ Ideal.div 1 (Ideal.rsqrt v) = ((√r : ℝ) : EReal) ∧ max v 0 = (r : EReal) := by
  induction v with
  | bot =>
    right
    refine ⟨0, le_rfl, ?_, by simp⟩
    simp [Ideal.rsqrt_bot, Ideal.div]
  | top =>
    left
    simp [Ideal.rsqrt_top, Ideal.div]
  | coe x =>
    right
    rcases lt_trichotomy x 0 with hx | hx | hx
    · refine ⟨0, le_rfl, ?_, by simp [hx.le]⟩
      simp [Ideal.rsqrt_coe, hx, Ideal.div]
    · subst hx
      refine ⟨0, le_rfl, ?_, by simp⟩
      rw [Ideal.rsqrt_coe, if_neg (lt_irrefl _), if_pos rfl]
      simp [Ideal.div]
    · refine ⟨x, hx.le, ?_, by simp [hx.le]⟩
      rw [Ideal.rsqrt_coe, if_neg (not_lt.mpr hx.le), if_neg hx.ne',
        Ideal.div_coe (inv_ne_zero (Real.sqrt_pos.mpr hx).ne'), one_mul]
      norm_num

/-- A negative real over a sum with one real summand. -/
theorem neg_mul_add {c r y : ℝ} (hc : 0 < c) (hr : 0 < r) (m : EReal) :
    ((-c : ℝ) : EReal) * (m * (r : EReal) + (y : EReal)) = m * ((-(c * r) : ℝ) : EReal) + ((-(c * y) : ℝ) : EReal) := by
  have h1 : (-(c * r) : ℝ) < 0 := by nlinarith [mul_pos hc hr]
  induction m with
  | bot => rw [EReal.bot_mul_coe_of_pos hr, EReal.bot_mul_coe_of_neg h1, EReal.bot_add,
      EReal.coe_mul_bot_of_neg (by linarith), EReal.top_add_coe]
  | top => rw [EReal.top_mul_coe_of_pos hr, EReal.top_mul_coe_of_neg h1, EReal.top_add_coe,
      EReal.coe_mul_top_of_neg (by linarith), EReal.bot_add]
  | coe x =>
    norm_cast
    ring

/-- The two updates agree from the first step on, at a finite parameter. -/
theorem delta_eq {ld wd : ℝ} (hd : lr * wd = ld) (m v : EReal) (p : ℝ) {t : ℝ} (ht : 1 ≤ t) :
    kDelta ld m v p t = refDelta wd m (max v 0) p t := by
  obtain ⟨b1, hb1, e1⟩ := bc_real beta1_pos beta1_lt_one ht
  obtain ⟨b2, hb2, e2⟩ := bc_real beta2_pos beta2_lt_one ht
  have hq : 0 < √b2 := Real.sqrt_pos.mpr hb2
  have he := eps_pos
  unfold kDelta refDelta
  rw [lit_beta1, lit_beta2, lit_neg_lr, lit_eps, lit_one, e1, e2, Ideal.sqrt_coe, if_neg (not_lt.mpr hb2.le),
    ← EReal.coe_mul, ← EReal.coe_mul, ← EReal.coe_mul, ← EReal.coe_mul, Ideal.div_coe hb1.ne', Ideal.div_coe hb1.ne',
    Ideal.div_coe hb2.ne', ← EReal.coe_mul]
  rcases root_cases v with ⟨h1, h2⟩ | ⟨r, hr, h1, h2⟩
  · rw [h1, h2, EReal.top_mul_coe_of_pos (by positivity), Ideal.sqrt_top, EReal.top_add_coe, EReal.top_add_coe]
    simp only [Ideal.div, if_neg EReal.top_ne_zero, EReal.inv_top, mul_zero, zero_mul, zero_add, zero_sub]
    rw [← EReal.coe_mul, ← EReal.coe_neg]
    congr 1
    rw [← hd]; ring
  · have hs : 0 ≤ √r := Real.sqrt_nonneg r
    have hk : 0 < √r + eps * √b2 := by positivity
    have hden : 0 < √(r * (1 / b2)) + eps := by positivity
    have hqr : √(r * (1 / b2)) = √r / √b2 := by rw [mul_one_div, Real.sqrt_div hr]
    rw [h1, h2, ← EReal.coe_mul, Ideal.sqrt_coe, if_neg (not_lt.mpr (by positivity)), ← EReal.coe_add, ← EReal.coe_add,
      Ideal.div_coe hk.ne', Ideal.div_coe hden.ne', one_mul, mul_assoc, mul_assoc m, ← EReal.coe_mul, ← EReal.coe_mul,
      neg_mul_add lr_pos (by positivity), sub_eq_add_neg, ← EReal.coe_neg]
    congr 3
    · rw [hqr]
      field_simp
    · rw [← hd]; ring

end Cert.Adam
-- ==== Proof.Chunk.lean ====
/-
  One grid point of the kernel, chunk by chunk: what each stored vector holds at an index, in terms of the point's
  blocks. The chunk's column offset is a variable, so each kind of store is read once.
-/
module

public import proofs.«01_k».proof.Proof.Gen.KernelIdeal.Frame
public import proofs.«01_k».proof.Proof.Spread
public import proofs.«01_k».proof.Proof.Delta
public import Idealize.ShloMosaic.Lib.Pointwise
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem
open Cert.KernelIdeal Cert.KernelIdeal.Gen

namespace Cert.Adam

/-! ### The values of a block -/

/-- The new first moment. -/
def mN (x2 : Vec Ideal S128x4096 .bf16) (x3 : Vec Ideal S128x4096 .fp8e4m3) (x4 : Vec Ideal S32x128 .f32)
    (r : Fin 128) (c : Fin 4096) : EReal :=
  x3 (ix2 r c) * (x4 (ix2 ⟨c / 128, by omega⟩ r) * lit 0x3F666666#32) + lit 0x3DCCCCCD#32 * x2 (ix2 r c)

/-- The new second moment. -/
def vN (x2 : Vec Ideal S128x4096 .bf16) (x5 : Vec Ideal S128x4096 .fp8e5m2) (x6 : Vec Ideal S32x128 .f32)
    (r : Fin 128) (c : Fin 4096) : EReal :=
  x5 (ix2 r c) * (x6 (ix2 ⟨c / 128, by omega⟩ r) * lit 0x3F7FBE77#32)
    + lit 0x3A83126F#32 * (x2 (ix2 r c) * x2 (ix2 r c))

/-- The greatest magnitude of the first moment in a group. -/
def aM (x2 : Vec Ideal S128x4096 .bf16) (x3 : Vec Ideal S128x4096 .fp8e4m3) (x4 : Vec Ideal S32x128 .f32)
    (r : Fin 128) (g : Fin 32) : EReal :=
  Finset.fold max (lit 0xFF800000#32)
    (fun j : Fin 128 => FloatOps.absf (F := Ideal) (φ := .f32) (mN x2 x3 x4 r ⟨128 * g + j, by omega⟩)) Finset.univ

/-- The greatest second moment in a group. -/
def aV (x2 : Vec Ideal S128x4096 .bf16) (x5 : Vec Ideal S128x4096 .fp8e5m2) (x6 : Vec Ideal S32x128 .f32)
    (r : Fin 128) (g : Fin 32) : EReal :=
  Finset.fold max (lit 0xFF800000#32) (fun j : Fin 128 => max (vN x2 x5 x6 r ⟨128 * g + j, by omega⟩) 0) Finset.univ

/-- The step count, as the kernel's real. -/
def tOf (x0 : BitVec 32) : EReal := FloatOps.sitofp (F := Ideal) .f32 x0

/-- A load through a whole buffer holding `X`. -/
theorem readAt_unread {s : Shape} {e : EltTy} {κ : Kind} {sp : Space} {arg : Memref sig κ sp s e} (h : arg.IsWhole)
    (X : Vec Ideal s e) (r : Rect s) : View.readAt (Elt Ideal) arg.view r.toLoadRect (h.unread X) = View.ld X r :=
  (View.readAt_eq_ld _ _ _).trans (by rw [h.read_unread])

/-- The matrix entries a chunk at column offset `o` reads. -/
def IsSpread {n : ℕ} (S : ℕ → ℕ → EReal) (o : ℕ) (em : FVec Ideal ⟨2, ![n, 256]⟩ .bf16) : Prop :=
  ∀ (k : Fin n) (j : Fin 256), em (ix2 k j) = S k (o + j)

abbrev emS := spread3 (lit 0x3F660000#32) (lit 0x3ACD0000#32) (lit 0xB5D00000#32)
abbrev evS := spread3 1 (lit 0xBA830000#32) (lit 0xB5100000#32)

section
variable {arg3 : Memref sig .tc .vmem S128x4096 .bf16} (harg3 : arg3.IsWhole)
variable {arg4 : Memref sig .tc .vmem S128x4096 .fp8e4m3} (harg4 : arg4.IsWhole)
variable {arg5 : Memref sig .tc .vmem S32x128 .f32} (harg5 : arg5.IsWhole)
variable {arg6 : Memref sig .tc .vmem S128x4096 .fp8e5m2} (harg6 : arg6.IsWhole)
variable {arg7 : Memref sig .tc .vmem S32x128 .f32} (harg7 : arg7.IsWhole)
variable (x2 : Vec Ideal S128x4096 .bf16) (x3 : Vec Ideal S128x4096 .fp8e4m3) (x4 : Vec Ideal S32x128 .f32)
variable (x5 : Vec Ideal S128x4096 .fp8e5m2) (x6 : Vec Ideal S32x128 .f32)
variable {o : ℕ} (inb : ∀ a, (![0, o] : Fin 2 → ℕ) a + S128x256.size a ≤ S128x4096.size a)
variable (inz : ∀ a, (![0, 0] : Fin 2 → ℕ) a + S32x128.size a ≤ S32x128.size a)
variable (em ev : FVec Ideal S128x256 .bf16)

/-- A chunk of a block. -/
abbrev chunk (inb : ∀ a, (![0, o] : Fin 2 → ℕ) a + S128x256.size a ≤ S128x4096.size a) : Rect S128x4096 :=
  Rect.unit ![0, o] S128x256.size inb

/-- The chunk's new first moment. -/
abbrev chM : FVec Ideal S128x256 .f32 :=
  k0_pay18 (k0_pay14 (View.readAt (Elt Ideal) arg5.view (Rect.unit ![0, 0] S32x128.size inz).toLoadRect (harg5.unread x4)))
    (k0_pay16 (View.readAt (Elt Ideal) arg3.view (chunk inb).toLoadRect (harg3.unread x2)))
    (k0_pay17 (View.readAt (Elt Ideal) arg4.view (chunk inb).toLoadRect (harg4.unread x3))) em

/-- The chunk's new second moment. -/
abbrev chV : FVec Ideal S128x256 .f32 :=
  k0_pay19 (k0_pay15 (View.readAt (Elt Ideal) arg7.view (Rect.unit ![0, 0] S32x128.size inz).toLoadRect (harg7.unread x6)))
    (k0_pay16 (View.readAt (Elt Ideal) arg3.view (chunk inb).toLoadRect (harg3.unread x2)))
    (View.readAt (Elt Ideal) arg6.view (chunk inb).toLoadRect (harg6.unread x5)) ev

include inb in
theorem chunk_lt (x : Fin 256) : o + x < 4096 := by
  have := inb 1
  simp at this
  omega

/-- A matrix's columns, loaded as a chunk. -/
theorem spread_read {n : ℕ} {S : ℕ → ℕ → EReal} {em : Vec Ideal ⟨2, ![n, 4096]⟩ .bf16}
    (h : ∀ (k : Fin n) (c : Fin 4096), em (ix2 k c) = S k c)
    (inc : ∀ a, (![0, o] : Fin 2 → ℕ) a + (⟨2, ![n, 256]⟩ : Shape).size a ≤ (⟨2, ![n, 4096]⟩ : Shape).size a) :
    IsSpread S o (View.ld em (Rect.unit (s := ⟨2, ![n, 4096]⟩) ![0, o] (⟨2, ![n, 256]⟩ : Shape).size inc)) := by
  intro k j
  rw [← h k ⟨o + j, by have := inc 1; simp at this; omega⟩]
  refine congrArg em (funext fun a => Fin.ext ?_)
  show (![0, o] : Fin 2 → ℕ) a + 1 * (ix2 k j a : ℕ) = _
  fin_cases a
  · show 0 + 1 * (k : ℕ) = k
    omega
  · show o + 1 * (j : ℕ) = o + j
    omega

theorem chM_at (h4 : ∀ i, ∃ s : ℝ, x4 i = (s : EReal)) (hem : IsSpread emS o em) (r : Fin 128) (j : Fin 256) :
    chM harg3 harg4 harg5 x2 x3 x4 inb inz em (ix2 r j) = mN x2 x3 x4 r ⟨o + j, chunk_lt inb j⟩ := by
  unfold chM
  rw [readAt_unread, readAt_unread, readAt_unread, View.ld_unit_zero (by ext a; fin_cases a <;> rfl),
    View.ld_unit, View.ld_unit]
  pointwise [k0_pay18, k0_pay17, k0_pay16]
  simp only [hem _ _]
  rw [dot_copies x4 h4 r ⟨o + j, chunk_lt inb j⟩ lit_beta1a lit_beta1b lit_beta1c lit_beta1 beta1_pieces]
  rfl

theorem chV_at (h6 : ∀ i, ∃ s : ℝ, x6 i = (s : EReal)) (hev : IsSpread evS o ev) (r : Fin 128) (j : Fin 256) :
    chV harg3 harg6 harg7 x2 x5 x6 inb inz ev (ix2 r j) = vN x2 x5 x6 r ⟨o + j, chunk_lt inb j⟩ := by
  unfold chV
  rw [readAt_unread, readAt_unread, readAt_unread, View.ld_unit_zero (by ext a; fin_cases a <;> rfl),
    View.ld_unit, View.ld_unit]
  pointwise [k0_pay19, k0_pay16]
  simp only [hev _ _]
  erw [dot_copies x6 h6 r ⟨o + j, chunk_lt inb j⟩ EReal.coe_one.symm lit_beta2b lit_beta2c lit_beta2 beta2_pieces]
  rfl

/-- The chunk's new second moment, below at zero. -/
abbrev chVp : FVec Ideal S128x256 .f32 :=
  k0_pay20 (k0_pay15 (View.readAt (Elt Ideal) arg7.view (Rect.unit ![0, 0] S32x128.size inz).toLoadRect (harg7.unread x6)))
    (k0_pay16 (View.readAt (Elt Ideal) arg3.view (chunk inb).toLoadRect (harg3.unread x2)))
    (View.readAt (Elt Ideal) arg6.view (chunk inb).toLoadRect (harg6.unread x5)) ev

theorem chVp_at (h6 : ∀ i, ∃ s : ℝ, x6 i = (s : EReal)) (hev : IsSpread evS o ev) (r : Fin 128) (j : Fin 256) :
    chVp harg3 harg6 harg7 x2 x5 x6 inb inz ev (ix2 r j) = max (vN x2 x5 x6 r ⟨o + j, chunk_lt inb j⟩) 0 := by
  rw [← chV_at harg3 harg6 harg7 x2 x5 x6 inb inz ev h6 hev r j]
  unfold chVp chV
  pointwise [k0_pay20]

/-- A list of stores is read as the blocks of `G` when its first store is and the others are. -/
theorem piecesOf_cons {s : Shape} {e : EltTy} {G : Vec Ideal s e} {R : Rect s} {w : R.shape.Idx → Elt Ideal e}
    {L : List (View.Piece (Elt Ideal) s e)} (h : ∀ x, w x = G (R.emb x)) (hL : View.PiecesOf G L) :
    View.PiecesOf G (⟨R, w⟩ :: L) := ⟨h, hL⟩

/-- A column of greatest values over a group's 128 columns. -/
abbrev colOf (u : FVec Ideal S128x128 .f32) : FVec Ideal S128x1 .f32 :=
  shapeCast S128x1 (shapeCast S128x1 (multiReduction .maximumf [1] S128 u 0xFF800000#32 reduces_S128x128_S128 (.inl rfl) rfl)
    shapeCasts_S128_S128x1) shapeCasts_S128x1_S128x1

theorem colOf_at (u : FVec Ideal S128x128 .f32) (x : S128x1.Idx) :
    colOf u x = Finset.fold max (lit 0xFF800000#32) (fun j : Fin 128 => u (ix2 (x 0) j)) Finset.univ := by
  pointwise []

/-- What the columns of greatest values hold after a point, lane by lane; the upper lanes hold `J`. -/
def GA (J : Vec Ideal S128x128 .f32) (i : S128x128.Idx) : EReal :=
  if h : (i 1 : ℕ) < 32 then aM x2 x3 x4 (i 0) ⟨i 1, h⟩
  else if h : (i 1 : ℕ) < 64 then aV x2 x5 x6 (i 0) ⟨(i 1 : ℕ) - 32, by omega⟩ else J i

theorem GA_lo (J : Vec Ideal S128x128 .f32) (r : Fin 128) (l : ℕ) (h : l < 32) :
    GA x2 x3 x4 x5 x6 J (ix2 r ⟨l, by omega⟩) = aM x2 x3 x4 r ⟨l, h⟩ := dif_pos h

theorem GA_hi (J : Vec Ideal S128x128 .f32) (r : Fin 128) (l : ℕ) (h : ¬ l < 32) (h' : l < 64) :
    GA x2 x3 x4 x5 x6 J (ix2 r ⟨l, by omega⟩) = aV x2 x5 x6 r ⟨l - 32, by omega⟩ := (dif_neg h).trans (dif_pos h')

theorem emb_col {l : ℕ} (hl : l < 128) (inl : ∀ a, (![0, l] : Fin 2 → ℕ) a + S128x1.size a ≤ S128x128.size a) (x : S128x1.Idx) :
    (Rect.unit (s := S128x128) ![0, l] S128x1.size inl).emb x = ix2 (n0 := 128) (n1 := 128) (x 0) ⟨l, hl⟩ := by
  have h0 : (x 1 : ℕ) = 0 := Nat.lt_one_iff.mp (x 1).isLt
  funext a
  apply Fin.ext
  show (![0, l] : Fin 2 → ℕ) a + 1 * (x a : ℕ) = _
  fin_cases a
  · show 0 + 1 * (x 0 : ℕ) = (x 0 : ℕ)
    omega
  · show l + 1 * (x 1 : ℕ) = l
    omega

theorem colM_piece (J : Vec Ideal S128x128 .f32) (h4 : ∀ i, ∃ s : ℝ, x4 i = (s : EReal)) (hem : IsSpread emS o em)
    (q l : ℕ) (hs : S128x256.Slices ![0, q] S128x128) (hl : l < 32) (ho : 128 * l = o + q)
    (inl : ∀ a, (![0, l] : Fin 2 → ℕ) a + S128x1.size a ≤ S128x128.size a) (v : FVec Ideal S128x256 .f32) (w w1 : FVec Ideal S128x1 .f32) (w2 : FVec Ideal S128 .f32)
    (u a : FVec Ideal S128x128 .f32) (hw : w = shapeCast S128x1 w1 shapeCasts_S128x1_S128x1)
    (hw1 : w1 = shapeCast S128x1 w2 shapeCasts_S128_S128x1)
    (hw2 : w2 = multiReduction .maximumf [1] S128 u 0xFF800000#32 reduces_S128x128_S128 (.inl rfl) rfl)
    (hu : u = absf a) (ha : a = extractStridedSlice S128x128 ![0, q] v hs)
    (hv : v = chM harg3 harg4 harg5 x2 x3 x4 inb inz em) (x : S128x1.Idx) : w x = GA x2 x3 x4 x5 x6 J ((Rect.unit (s := S128x128) ![0, l] S128x1.size inl).emb x) := by
  subst hw hw1 hw2 hu ha hv
  refine (colOf_at _ x).trans ?_
  rw [emb_col (by omega), GA_lo x2 x3 x4 x5 x6 J (x 0) l hl]
  unfold aM
  refine Finset.fold_congr fun j _ => ?_
  pointwise []
  erw [chM_at harg3 harg4 harg5 x2 x3 x4 inb inz em h4 hem]
  congr 2
  apply Fin.ext
  show o + (q + (j : ℕ)) = 128 * l + j
  omega

theorem colV_piece (J : Vec Ideal S128x128 .f32) (h6 : ∀ i, ∃ s : ℝ, x6 i = (s : EReal)) (hev : IsSpread evS o ev)
    (q l : ℕ) (hs : S128x256.Slices ![0, q] S128x128) (hl : 32 ≤ l) (hl' : l < 64) (ho : 128 * (l - 32) = o + q)
    (inl : ∀ a, (![0, l] : Fin 2 → ℕ) a + S128x1.size a ≤ S128x128.size a) (v : FVec Ideal S128x256 .f32) (w w1 : FVec Ideal S128x1 .f32) (w2 : FVec Ideal S128 .f32)
    (u : FVec Ideal S128x128 .f32) (hw : w = shapeCast S128x1 w1 shapeCasts_S128x1_S128x1)
    (hw1 : w1 = shapeCast S128x1 w2 shapeCasts_S128_S128x1)
    (hw2 : w2 = multiReduction .maximumf [1] S128 u 0xFF800000#32 reduces_S128x128_S128 (.inl rfl) rfl)
    (hu : u = extractStridedSlice S128x128 ![0, q] v hs)
    (hv : v = chVp harg3 harg6 harg7 x2 x5 x6 inb inz ev) (x : S128x1.Idx) : w x = GA x2 x3 x4 x5 x6 J ((Rect.unit (s := S128x128) ![0, l] S128x1.size inl).emb x) := by
  subst hw hw1 hw2 hu hv
  refine (colOf_at _ x).trans ?_
  rw [emb_col (by omega), GA_hi x2 x3 x4 x5 x6 J (x 0) l (by omega) hl']
  unfold aV
  refine Finset.fold_congr fun j _ => ?_
  pointwise []
  erw [chVp_at harg3 harg6 harg7 x2 x5 x6 inb inz ev h6 hev]
  congr 2
  apply Fin.ext
  show o + (q + (j : ℕ)) = 128 * (l - 32) + j
  omega

/-- What the first moment's buffer holds after a point. -/
def G0 (i : S128x4096.Idx) : EReal := mN x2 x3 x4 (i 0) (i 1)

/-- What the second moment's buffer holds after a point. -/
def G1 (i : S128x4096.Idx) : EReal := max (vN x2 x5 x6 (i 0) (i 1)) 0

/-- The parameter update of a block. -/
def G7 (x0 : BitVec 32) (x1 : Vec Ideal S128x4096 .f32) (i : S128x4096.Idx) : EReal :=
  kDelta (Named.named (F := Ideal) κ "lr_decay" (φ := .f32) 0x3727C5AC#32) (mN x2 x3 x4 (i 0) (i 1)) (vN x2 x5 x6 (i 0) (i 1))
    (x1 i) (tOf x0)

theorem emb_chunk (r : Fin 128) (j : Fin 256) :
    (chunk inb).emb (ix2 r j) = ix2 (n0 := 128) (n1 := 4096) r ⟨o + j, chunk_lt inb j⟩ := by
  funext a
  apply Fin.ext
  show (![0, o] : Fin 2 → ℕ) a + 1 * (ix2 r j a : ℕ) = _
  fin_cases a
  · show 0 + 1 * (r : ℕ) = r
    omega
  · show o + 1 * (j : ℕ) = o + j
    omega

theorem m_piece (h4 : ∀ i, ∃ s : ℝ, x4 i = (s : EReal)) (hem : IsSpread emS o em) (x : S128x256.Idx) :
    shapeCast S128x256 (chM harg3 harg4 harg5 x2 x3 x4 inb inz em) shapeCasts_S128x256_S128x256 x
      = G0 x2 x3 x4 ((chunk inb).emb x) := by
  obtain ⟨r, j, rfl⟩ : ∃ r j, x = ix2 r j := ⟨x 0, x 1, by ext a; fin_cases a <;> rfl⟩
  rw [emb_chunk, shapeCast_self]
  exact chM_at harg3 harg4 harg5 x2 x3 x4 inb inz em h4 hem r j

theorem v_piece (h6 : ∀ i, ∃ s : ℝ, x6 i = (s : EReal)) (hev : IsSpread evS o ev) (x : S128x256.Idx) :
    shapeCast S128x256 (chVp harg3 harg6 harg7 x2 x5 x6 inb inz ev) shapeCasts_S128x256_S128x256 x
      = G1 x2 x5 x6 ((chunk inb).emb x) := by
  obtain ⟨r, j, rfl⟩ : ∃ r j, x = ix2 r j := ⟨x 0, x 1, by ext a; fin_cases a <;> rfl⟩
  rw [emb_chunk, shapeCast_self]
  exact chVp_at harg3 harg6 harg7 x2 x5 x6 inb inz ev h6 hev r j

/-- The chunk's parameter update. -/
theorem dp_at (v3 : Elt Ideal .i32) (w u : FVec Ideal S128x256 .f32) (p : Vec Ideal S128x256 .f32) (x : S128x256.Idx) :
    k0_pay27 (F := Ideal) (k0_pay12 v3) (k0_pay13 v3) w u p x
      = kDelta (Named.named (F := Ideal) κ "lr_decay" (φ := .f32) 0x3727C5AC#32) (w x) (u x) (p x) (tOf v3) := by
  pointwise [k0_pay27, k0_pay12, k0_pay13, k0_pay11, k0_pay10, kDelta, tOf, bc]

theorem dp_piece {arg2 : Memref sig .tc .vmem S128x4096 .f32} (harg2 : arg2.IsWhole) {n x0 : BitVec 32} (hn : n = x0)
    (x1 : Vec Ideal S128x4096 .f32) (h4 : ∀ i, ∃ s : ℝ, x4 i = (s : EReal)) (h6 : ∀ i, ∃ s : ℝ, x6 i = (s : EReal))
    (hem : IsSpread emS o em) (hev : IsSpread evS o ev) (x : S128x256.Idx) :
    k0_pay27 (F := Ideal) (k0_pay12 n) (k0_pay13 n) (chM harg3 harg4 harg5 x2 x3 x4 inb inz em)
        (chV harg3 harg6 harg7 x2 x5 x6 inb inz ev)
        (View.readAt (Elt Ideal) arg2.view (chunk inb).toLoadRect (harg2.unread x1)) x
      = G7 x2 x3 x4 x5 x6 x0 x1 ((chunk inb).emb x) := by
  obtain ⟨r, j, rfl⟩ : ∃ r j, x = ix2 r j := ⟨x 0, x 1, by ext a; fin_cases a <;> rfl⟩
  subst hn
  rw [dp_at, chM_at harg3 harg4 harg5 x2 x3 x4 inb inz em h4 hem, chV_at harg3 harg6 harg7 x2 x5 x6 inb inz ev h6 hev,
    readAt_unread, emb_chunk]
  show kDelta _ _ _ (x1 ((chunk inb).emb (ix2 r j))) _ = _
  rw [emb_chunk]
  rfl

/-- The codes of a block, from its moments and the inverse scales of its groups. -/
def G8 (i : S128x4096.Idx) : EReal :=
  min (lit 0x43E00000#32) (max (lit 0xC3E00000#32)
    (mN x2 x3 x4 (i 0) (i 1) * kInv (aM x2 x3 x4 (i 0) ⟨(i 1 : ℕ) / 128, by have := (i 1).isLt; simp at this; omega⟩ * lit 0x3B124925#32)))

def G10 (i : S128x4096.Idx) : EReal :=
  min (max (vN x2 x5 x6 (i 0) (i 1)) 0
    * kInv (aV x2 x5 x6 (i 0) ⟨(i 1 : ℕ) / 128, by have := (i 1).isLt; simp at this; omega⟩ * lit 0x37924925#32)) (lit 0x47600000#32)

/-- The inverse scales the codes use. -/
def IsInv (inv : FVec Ideal S128x64 .bf16) : Prop :=
  (∀ (r : Fin 128) (g : Fin 32), inv (ix2 r ⟨g, by omega⟩) = kInv (aM x2 x3 x4 r g * lit 0x3B124925#32))
  ∧ ∀ (r : Fin 128) (g : Fin 32), inv (ix2 r ⟨g + 32, by omega⟩) = kInv (aV x2 x5 x6 r g * lit 0x37924925#32)

theorem codeM_piece (inv : FVec Ideal S128x64 .bf16) (hinv : IsInv x2 x3 x4 x5 x6 inv) (w : FVec Ideal S128x256 .f32)
    (hw : ∀ x, w x = G0 x2 x3 x4 ((chunk inb).emb x)) (im : FVec Ideal S64x256 .bf16) (him : IsSpread (spread1 0) o im)
    (p : S128x256.Idx → EReal) (hp : p = k0_pay226 (F := Ideal) inv w im) (x : S128x256.Idx) :
    p x = G8 x2 x3 x4 ((chunk inb).emb x) := by
  subst hp
  obtain ⟨r, j, rfl⟩ : ∃ r j, x = ix2 r j := ⟨x 0, x 1, by ext a; fin_cases a <;> rfl⟩
  pointwise [k0_pay226]
  simp only [him _ _, hw]
  have := chunk_lt inb j
  rw [sum_spread1 _ _ _ (by omega), emb_chunk]
  erw [hinv.1 r ⟨(o + j) / 128, by omega⟩]
  rfl

theorem codeV_piece (inv : FVec Ideal S128x64 .bf16) (hinv : IsInv x2 x3 x4 x5 x6 inv) (w : FVec Ideal S128x256 .f32)
    (hw : ∀ x, w x = G1 x2 x5 x6 ((chunk inb).emb x)) (iv : FVec Ideal S64x256 .bf16) (hiv : IsSpread (spread1 32) o iv)
    (p : S128x256.Idx → EReal) (hp : p = k0_pay1 (F := Ideal) inv w iv) (x : S128x256.Idx) :
    p x = G10 x2 x5 x6 ((chunk inb).emb x) := by
  subst hp
  obtain ⟨r, j, rfl⟩ : ∃ r j, x = ix2 r j := ⟨x 0, x 1, by ext a; fin_cases a <;> rfl⟩
  pointwise [k0_pay1]
  simp only [hiv _ _, hw]
  have := chunk_lt inb j
  rw [sum_spread1 _ _ _ (by omega), emb_chunk]
  erw [hinv.2 r ⟨(o + j) / 128, by omega⟩]
  rfl

end
end Cert.Adam
-- ==== Proof.Field.lean ====
/-
  The kernel's exponent phase on a whole vector of greatest values, lane by lane: every lane is the scalar search of
  Scale.lean.
-/
module

public import proofs.«01_k».proof.Proof.Gen.KernelIdeal.Skeleton
public import proofs.«01_k».proof.Proof.Spread
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.Adam

variable (a : Vec Ideal S128x128 .f32)

/-- The lane numbers. -/
abbrev lanes : IVec S128x128 32 := iota .tc S128x128 32 [1] iota_S128x128_d1_w32

/-- The scaled greatest values. -/
abbrev scaled : FVec Ideal S128x128 .f32 := k0_pay214 lanes a

/-- The exponent fields. -/
abbrev fields : IVec S128x128 32 := k0_pay218 (scaled a) (k0_pay215 lanes a) (k0_pay216 lanes a) (k0_pay217 lanes a)

/-- One step of the search on the vector. -/
def vstep (x : FVec Ideal S128x128 .f32) (b : BitVec 32) (f : IVec S128x128 32) : IVec S128x128 32 :=
  select (cmpf .oge x (bitcastToFloat .f32 (addi f (broadcast S128x128 b)))) (addi f (broadcast S128x128 b)) f

theorem vstep_at (x : FVec Ideal S128x128 .f32) (b : BitVec 32) (f : IVec S128x128 32) (i : S128x128.Idx) :
    vstep x b f i = step (x i) b (f i) := rfl

theorem fields_eq : fields a = select (cmpf .olt (scaled a) (broadcast S128x128 (Scalar.ofBits .f32 0x7E800000#32)))
    (vstep (scaled a) 8388608#32 (vstep (scaled a) 16777216#32 (vstep (scaled a) 33554432#32
      (vstep (scaled a) 67108864#32 (vstep (scaled a) 134217728#32 (vstep (scaled a) 268435456#32
        (vstep (scaled a) 536870912#32 (vstep (scaled a) 1073741824#32 (broadcast S128x128 0#32)))))))))
    (broadcast S128x128 2139095040#32) := rfl

theorem fields_at (i : S128x128.Idx) : fields a i = field (scaled a i) := by
  have e : ∀ (c : IVec S128x128 1) (f g : IVec S128x128 32), select c f g i = Scalar.select (c i) (f i) (g i) :=
    fun _ _ _ => rfl
  rw [fields_eq, e, vstep_at, vstep_at, vstep_at, vstep_at, vstep_at, vstep_at, vstep_at, vstep_at]
  rfl

/-- The scales, one row per group, of the first moment. -/
theorem scaleM_at (g : Fin 32) (r : Fin 128) :
    k0_pay221 (scaled a) (k0_pay215 lanes a) (k0_pay216 lanes a) (k0_pay217 lanes a) (ix2 g r)
      = kScale (scaled a (ix2 r ⟨g, by omega⟩)) := by
  unfold kScale isUnit
  rw [← fields_at]
  pointwise [k0_pay221, k0_pay220, k0_pay219]
  rfl

theorem scaleV_at (g : Fin 32) (r : Fin 128) :
    k0_pay222 (scaled a) (k0_pay215 lanes a) (k0_pay216 lanes a) (k0_pay217 lanes a) (ix2 g r)
      = kScale (scaled a (ix2 r ⟨32 + g, by omega⟩)) := by
  unfold kScale isUnit
  rw [← fields_at]
  pointwise [k0_pay222, k0_pay220, k0_pay219]
  rfl

theorem inv_at (r : Fin 128) (l : Fin 64) :
    k0_pay223 (scaled a) (k0_pay215 lanes a) (k0_pay216 lanes a) (k0_pay217 lanes a) (ix2 r l)
      = kInv (scaled a (ix2 r ⟨l, by omega⟩)) := by
  unfold kInv isUnit
  rw [← fields_at]
  pointwise [k0_pay223, k0_pay219]
  rfl

theorem lane_lt : ∀ l : Fin 128, IntOp.cmpi CmpIPredicate.slt (BitVec.ofNat 32 l) 32#32
    = if (l : ℕ) < 32 then (1 : BitVec 1) else 0 := by decide +kernel

theorem scaled_at (r : Fin 128) (l : Fin 128) :
    scaled a (ix2 r l) = a (ix2 r l) * if (l : ℕ) < 32 then lit 0x3B124925#32 else lit 0x37924925#32 := by
  pointwise [k0_pay214]
  rw [lane_lt, select_ite]

end Cert.Adam
-- ==== Proof.Codes.lean ====
/-
  The scales and the inverse scales of one grid point, from the columns of greatest values.
-/
module

public import proofs.«01_k».proof.Proof.Chunk
public import proofs.«01_k».proof.Proof.Field

@[expose] public section

set_option maxRecDepth 16384

noncomputable section

open Idealize.ShloMosaic Idealize.ShloMosaic.TcCoe Idealize.SL.Sem
open Cert.KernelIdeal Cert.KernelIdeal.Gen

namespace Cert.Adam

variable (x2 : Vec Ideal S128x4096 .bf16) (x3 : Vec Ideal S128x4096 .fp8e4m3) (x4 : Vec Ideal S32x128 .f32)
variable (x5 : Vec Ideal S128x4096 .fp8e5m2) (x6 : Vec Ideal S32x128 .f32) (J : Vec Ideal S128x128 .f32)
variable (a : Vec Ideal S128x128 .f32)

/-- The first moment's scales, from the columns. -/
abbrev scaleMOf : FVec Ideal S32x128 .f32 := k0_pay221 (scaled a) (k0_pay215 lanes a) (k0_pay216 lanes a) (k0_pay217 lanes a)

/-- The second moment's scales, from the columns. -/
abbrev scaleVOf : FVec Ideal S32x128 .f32 := k0_pay222 (scaled a) (k0_pay215 lanes a) (k0_pay216 lanes a) (k0_pay217 lanes a)

/-- The inverse scales, from the columns. -/
abbrev invOf : FVec Ideal S128x64 .bf16 := k0_pay223 (scaled a) (k0_pay215 lanes a) (k0_pay216 lanes a) (k0_pay217 lanes a)

/-- The scales of the first moment, one row per group. -/
def G9 (i : S32x128.Idx) : EReal := kScale (aM x2 x3 x4 (i 1) (i 0) * lit 0x3B124925#32)

/-- The scales of the second moment, one row per group. -/
def G11 (i : S32x128.Idx) : EReal := kScale (aV x2 x5 x6 (i 1) (i 0) * lit 0x37924925#32)

/-- The lower lanes hold the groups' greatest values. -/
def Lower : Prop := ∀ (r : Fin 128) (l : Fin 128), (l : ℕ) < 64 → a (ix2 r l) = GA x2 x3 x4 x5 x6 J (ix2 r l)

variable {x2 x3 x4 x5 x6 J a} (ha : Lower x2 x3 x4 x5 x6 J a)

include ha

theorem scaled_lo (r : Fin 128) (g : Fin 32) :
    scaled a (ix2 r ⟨g, by omega⟩) = aM x2 x3 x4 r g * lit 0x3B124925#32 := by
  rw [scaled_at, ha r ⟨g, by omega⟩ (by show (g : ℕ) < 64; omega), GA_lo x2 x3 x4 x5 x6 J r g g.isLt, if_pos g.isLt]

theorem scaled_hi (r : Fin 128) (l : Fin 128) (g : Fin 32) (hl : (l : ℕ) = g + 32) :
    scaled a (ix2 r l) = aV x2 x5 x6 r g * lit 0x37924925#32 := by
  obtain ⟨l, hl'⟩ := l
  obtain rfl : l = g + 32 := hl
  rw [scaled_at, ha r ⟨g + 32, hl'⟩ (by show (g : ℕ) + 32 < 64; omega),
    GA_hi x2 x3 x4 x5 x6 J r (g + 32) (by omega) (by omega), if_neg (by show ¬ (g : ℕ) + 32 < 32; omega)]
  congr 2

theorem scaleM_eq (x : S32x128.Idx) :
    scaleMOf a x = G9 x2 x3 x4 x := by
  obtain ⟨g, r, rfl⟩ : ∃ g r, x = ix2 g r := ⟨x 0, x 1, by ext a; fin_cases a <;> rfl⟩
  exact (scaleM_at a g r).trans (congrArg kScale (scaled_lo ha r g))

theorem scaleV_eq (x : S32x128.Idx) :
    scaleVOf a x = G11 x2 x5 x6 x := by
  obtain ⟨g, r, rfl⟩ : ∃ g r, x = ix2 g r := ⟨x 0, x 1, by ext a; fin_cases a <;> rfl⟩
  exact (scaleV_at a g r).trans (congrArg kScale (scaled_hi ha r _ g (Nat.add_comm _ _)))

theorem isInv : IsInv x2 x3 x4 x5 x6
    (invOf a) :=
  ⟨fun r g => (inv_at a r ⟨g, by omega⟩).trans (congrArg kInv (scaled_lo ha r g)),
   fun r g => (inv_at a r ⟨g + 32, by omega⟩).trans (congrArg kInv (scaled_hi ha r _ g rfl))⟩

end Cert.Adam
-- ==== Proof.Lists.lean ====
/-
  The lists of stores of one grid point, each read as the blocks of one function of the point's inputs.
-/
module

public import proofs.«01_k».proof.Proof.Chunk
public import proofs.«01_k».proof.Proof.Codes

@[expose] public section

set_option maxRecDepth 16384

noncomputable section

open Idealize.ShloMosaic Idealize.ShloMosaic.TcCoe Idealize.SL.Sem
open Cert.KernelIdeal Cert.KernelIdeal.Gen

namespace Cert.Adam

variable (c : Dev nD) (i : grid0.Coords) (arg1 : Memref sig .tc .smem S1 .i32) (harg1 : arg1.IsWhole)
variable (arg2 : Memref sig .tc .vmem S128x4096 .f32) (harg2 : arg2.IsWhole)
variable (arg3 : Memref sig .tc .vmem S128x4096 .bf16) (harg3 : arg3.IsWhole)
variable (arg4 : Memref sig .tc .vmem S128x4096 .fp8e4m3) (harg4 : arg4.IsWhole)
variable (arg5 : Memref sig .tc .vmem S32x128 .f32) (harg5 : arg5.IsWhole)
variable (arg6 : Memref sig .tc .vmem S128x4096 .fp8e5m2) (harg6 : arg6.IsWhole)
variable (arg7 : Memref sig .tc .vmem S32x128 .f32) (harg7 : arg7.IsWhole)
variable (arg8 : Memref sig .tc .vmem S128x4096 .f32) (harg8 : arg8.IsWhole)
variable (arg9 : Memref sig .tc .vmem S128x4096 .fp8e4m3) (harg9 : arg9.IsWhole)
variable (arg10 : Memref sig .tc .vmem S32x128 .f32) (harg10 : arg10.IsWhole)
variable (arg11 : Memref sig .tc .vmem S128x4096 .fp8e5m2) (harg11 : arg11.IsWhole)
variable (arg12 : Memref sig .tc .vmem S32x128 .f32) (harg12 : arg12.IsWhole)
variable (arg13 : Memref sig .tc .vmem S128x4096 .f32) (harg13 : arg13.IsWhole)
variable (arg14 : Memref sig .tc .vmem S128x4096 .f32) (harg14 : arg14.IsWhole)
variable (arg15 : Memref sig .tc .vmem S128x128 .f32) (harg15 : arg15.IsWhole)
variable (arg16 : Memref sig .tc .vmem S128x4096 .bf16) (harg16 : arg16.IsWhole)
variable (arg17 : Memref sig .tc .vmem S128x4096 .bf16) (harg17 : arg17.IsWhole)
variable (arg18 : Memref sig .tc .vmem S64x4096 .bf16) (harg18 : arg18.IsWhole)
variable (arg19 : Memref sig .tc .vmem S64x4096 .bf16) (harg19 : arg19.IsWhole) (x0 : Vec Ideal S1 .i32)
variable (x1 : Vec Ideal S128x4096 .f32) (x2 : Vec Ideal S128x4096 .bf16) (x3 : Vec Ideal S128x4096 .fp8e4m3)
variable (x4 : Vec Ideal S32x128 .f32) (x5 : Vec Ideal S128x4096 .fp8e5m2) (x6 : Vec Ideal S32x128 .f32)
variable (xs2 : Vec Ideal S128x128 .f32) (xs3 : Vec Ideal S128x4096 .bf16) (xs4 : Vec Ideal S128x4096 .bf16)
variable (xs5 : Vec Ideal S64x4096 .bf16) (xs6 : Vec Ideal S64x4096 .bf16)
variable (h4 : ∀ i, ∃ s : ℝ, x4 i = (s : EReal)) (h6 : ∀ i, ∃ s : ℝ, x6 i = (s : EReal))

/-- The step count's load. -/
theorem step_read (r : Rect S1) (y : r.shape.Idx) :
    View.readAt (Elt Ideal) arg1.view r.toLoadRect (harg1.unread x0) y = x0 (ix1 0) := by
  rw [readAt_unread]
  show x0 _ = _
  congr 1
  funext a
  fin_cases a
  exact Fin.ext (Nat.lt_one_iff.mp (r.idx y 0).isLt)

/-- A matrix's columns, loaded as a chunk from a buffer holding the matrix. -/
theorem loaded {n : ℕ} {S : ℕ → ℕ → EReal} {arg : Memref sig .tc .vmem ⟨2, ![n, 4096]⟩ .bf16} (harg : arg.IsWhole)
    {em : Vec Ideal ⟨2, ![n, 4096]⟩ .bf16} (h : ∀ (k : Fin n) (c : Fin 4096), em (ix2 k c) = S k c) {o : ℕ}
    (inc : ∀ a, (![0, o] : Fin 2 → ℕ) a + (⟨2, ![n, 256]⟩ : Shape).size a ≤ (⟨2, ![n, 4096]⟩ : Shape).size a) :
    IsSpread S o (View.readAt (Elt Ideal) arg.view
      (Rect.unit (s := ⟨2, ![n, 4096]⟩) ![0, o] (⟨2, ![n, 256]⟩ : Shape).size inc).toLoadRect (harg.unread em)) := by
  rw [readAt_unread]; exact spread_read h inc

/-- The upper 64 lanes, as one more block: with them the lane-wise stores cover the whole block. -/
abbrev upper : View.Piece (Elt Ideal) S128x128 .f32 :=
  ⟨Rect.unit (s := S128x128) ![0, 64] ![128, 64] (by decide), fun _ => 0⟩

theorem cover_lower {L : List (View.Piece (Elt Ideal) S128x128 .f32)}
    (h : View.Piece.tiledBy (L ++ [upper]) S128x1.size = true) (r : Fin 128) (l : Fin 128) (hl : (l : ℕ) < 64) :
    ∃ p ∈ L, ix2 r l ∈ p.1.set := by
  obtain ⟨p, hp, hy⟩ := View.cover_of_tiledBy _ _ h (ix2 r l)
  rcases List.mem_append.mp hp with hp | hp
  · exact ⟨p, hp, hy⟩
  · rw [List.mem_singleton.mp hp, Rect.mem_set_unit] at hy
    exact absurd (hy 1).1 (by show ¬ 64 ≤ (l : ℕ); omega)

/-- The whole buffer, loaded over stores that are blocks of `G` where they cover. -/
theorem read_lower (f : arg15.view.ty.Contents (Elt Ideal)) {L : List (View.Piece (Elt Ideal) S128x128 .f32)} {G : Vec Ideal S128x128 .f32}
    (hp : View.PiecesOf G L) {y : S128x128.Idx} (hc : ∃ p ∈ L, y ∈ p.1.set)
    (inz : ∀ a, (![0, 0] : Fin 2 → ℕ) a + S128x128.size a ≤ S128x128.size a) :
    View.readAt (Elt Ideal) arg15.view (Rect.unit (s := S128x128) ![0, 0] S128x128.size inz).toLoadRect
      (arg15.view.writes (Elt Ideal) f L) y = G y := by
  have e : View.readAt (Elt Ideal) arg15.view (Rect.unit (s := S128x128) ![0, 0] S128x128.size inz).toLoadRect
      (arg15.view.writes (Elt Ideal) f L) = View.read (Elt Ideal) arg15.view (arg15.view.writes (Elt Ideal) f L) :=
    View.ld_unit_lit (S := S128x128) inz _ (by intro a; fin_cases a <;> rfl)
  rw [e, View.read_writes_apply_eq_canon _ _ _ _ hc]
  exact View.canon_apply_of_pieces _ _ hp.mem _ hc

/-- A chunk of a buffer, loaded over stores that are blocks of `G` and cover it. -/
theorem chunk_read {arg : Memref sig .tc .vmem S128x4096 .f32} {L : List (View.Piece (Elt Ideal) S128x4096 .f32)}
    {G : Vec Ideal S128x4096 .f32} (hp : View.PiecesOf G L) (hc : ∀ y, ∃ p ∈ L, y ∈ p.1.set) {o : ℕ}
    (inb : ∀ a, (![0, o] : Fin 2 → ℕ) a + S128x256.size a ≤ S128x4096.size a) (x : S128x256.Idx) :
    arg.view.readCov L (chunk inb).toLoadRect x = G ((chunk inb).emb x) := by
  rw [View.readCov_eq_canon']
  exact View.canon_apply_of_pieces _ _ hp.mem _ (hc _)

section B
variable (hc0 : ¬cond0_0 i)
variable (hem : ∀ (k : Fin 128) (c : Fin 4096), xs3 (ix2 k c) = emS k c)
variable (hev : ∀ (k : Fin 128) (c : Fin 4096), xs4 (ix2 k c) = evS k c)
variable (him : ∀ (k : Fin 64) (c : Fin 4096), xs5 (ix2 k c) = spread1 0 k c)
variable (hiv : ∀ (k : Fin 64) (c : Fin 4096), xs6 (ix2 k c) = spread1 32 k c)

include h4 h6 hem hev

theorem pieces7B : View.PiecesOf (G7 x2 x3 x4 x5 x6 (x0 (ix1 0)) x1)
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs2 xs3 xs4 xs5 xs6).1 := by
  iterate 16 refine ⟨fun x => dp_piece harg3 harg4 harg5 harg6 harg7 x2 x3 x4 x5 x6 _ _ _ _ harg2 (step_read arg1 harg1 x0 _ _) x1
    h4 h6 (loaded harg16 hem _) (loaded harg17 hev _) x, ?_⟩
  exact trivial

omit h6 hev in
theorem pieces0B : View.PiecesOf (G0 x2 x3 x4) (kernelRun0_B.sl.HS0_16 c arg3 harg3 arg4 harg4 arg5 harg5 arg16 harg16 x2 x3 x4 xs3) := by
  iterate 16 refine ⟨fun x => m_piece harg3 harg4 harg5 x2 x3 x4 _ _ _ h4 (loaded harg16 hem _) x, ?_⟩
  exact trivial

omit h4 hem in
theorem pieces1B : View.PiecesOf (G1 x2 x5 x6) (kernelRun0_B.sl.HS1_16 c arg3 harg3 arg6 harg6 arg7 harg7 arg17 harg17 x2 x5 x6 xs4) := by
  iterate 16 refine ⟨fun x => v_piece harg3 harg6 harg7 x2 x5 x6 _ _ _ h6 (loaded harg17 hev _) x, ?_⟩
  exact trivial

theorem pieces2B (J : Vec Ideal S128x128 .f32) : View.PiecesOf (GA x2 x3 x4 x5 x6 J) (kernelRun0_B.sl.HS2_64 c arg3 harg3 arg4 harg4 arg5
    harg5 arg6 harg6 arg7 harg7 arg16 harg16 arg17 harg17 x2 x3 x4 x5 x6 xs3 xs4) := by
  iterate 32
    refine piecesOf_cons (fun x => ?_) (piecesOf_cons (fun x => ?_) ?_)
    · apply colV_piece harg3 harg6 harg7 x2 x3 x4 x5 x6 _ _ _ J h6
      case hw => rfl
      case hw1 => rfl
      case hw2 => rfl
      case hu => rfl
      case hv => rfl
      case hev => exact loaded harg17 hev _
      all_goals omega
    · apply colM_piece harg3 harg4 harg5 x2 x3 x4 x5 x6 _ _ _ J h4
      case hw => rfl
      case hw1 => rfl
      case hw2 => rfl
      case hu => rfl
      case ha => rfl
      case hv => rfl
      case hem => exact loaded harg16 hem _
      all_goals omega
  exact trivial

omit h4 h6 hem hev in
theorem cover2B (r : Fin 128) (l : Fin 128) (hl : (l : ℕ) < 64) : ∃ p ∈ kernelRun0_B.sl.HS2_64 c arg3 harg3 arg4 harg4 arg5
    harg5 arg6 harg6 arg7 harg7 arg16 harg16 arg17 harg17 x2 x3 x4 x5 x6 xs3 xs4, ix2 r l ∈ p.1.set :=
  cover_lower (by sl_kernel_rfl) r l hl

theorem lowerB : Lower x2 x3 x4 x5 x6 xs2 (kernelRun0_B.sl.v1123 c arg3 harg3 arg4 harg4 arg5 harg5 arg6 harg6 arg7 harg7 arg15 harg15 arg16 harg16 arg17 harg17 x2 x3 x4 x5 x6 xs2 xs3 xs4) := by
  intro r l hl
  have hc := cover2B c arg3 harg3 arg4 harg4 arg5 harg5 arg6 harg6 arg7 harg7 arg16 harg16 arg17 harg17 x2 x3 x4 x5 x6 xs3 xs4 r l hl
  have hp := pieces2B c arg3 harg3 arg4 harg4 arg5 harg5 arg6 harg6 arg7 harg7 arg16 harg16 arg17 harg17 x2 x3 x4 x5 x6 xs3 xs4
    h4 h6 hem hev xs2
  exact read_lower arg15 _ hp hc _

theorem v1191B (x : S32x128.Idx) : kernelRun0_B.sl.v1191 c arg3 harg3 arg4 harg4 arg5 harg5 arg6 harg6 arg7 harg7 arg15 harg15 arg16 harg16 arg17 harg17 x2 x3 x4 x5 x6 xs2 xs3 xs4 x = G9 x2 x3 x4 x :=
  (congrFun (show _ = scaleMOf (kernelRun0_B.sl.v1123 c arg3 harg3 arg4 harg4 arg5 harg5 arg6 harg6 arg7 harg7 arg15 harg15 arg16 harg16 arg17 harg17 x2 x3 x4 x5 x6 xs2 xs3 xs4) from rfl) x).trans
    (scaleM_eq (lowerB c arg3 harg3 arg4 harg4 arg5 harg5 arg6 harg6 arg7 harg7 arg15 harg15 arg16 harg16 arg17 harg17 x2 x3 x4 x5 x6
      xs2 xs3 xs4 h4 h6 hem hev) x)

theorem v1193B (x : S32x128.Idx) : kernelRun0_B.sl.v1193 c arg3 harg3 arg4 harg4 arg5 harg5 arg6 harg6 arg7 harg7 arg15 harg15 arg16 harg16 arg17 harg17 x2 x3 x4 x5 x6 xs2 xs3 xs4 x = G11 x2 x5 x6 x :=
  (congrFun (show _ = scaleVOf (kernelRun0_B.sl.v1123 c arg3 harg3 arg4 harg4 arg5 harg5 arg6 harg6 arg7 harg7 arg15 harg15 arg16 harg16 arg17 harg17 x2 x3 x4 x5 x6 xs2 xs3 xs4) from rfl) x).trans
    (scaleV_eq (lowerB c arg3 harg3 arg4 harg4 arg5 harg5 arg6 harg6 arg7 harg7 arg15 harg15 arg16 harg16 arg17 harg17 x2 x3 x4 x5 x6
      xs2 xs3 xs4 h4 h6 hem hev) x)

theorem invB : IsInv x2 x3 x4 x5 x6 (kernelRun0_B.sl.v1196 c arg3 harg3 arg4 harg4 arg5 harg5 arg6 harg6 arg7 harg7 arg15 harg15 arg16 harg16 arg17 harg17 x2 x3 x4 x5 x6 xs2 xs3 xs4) :=
  (congrArg (IsInv x2 x3 x4 x5 x6) (show _ = invOf (kernelRun0_B.sl.v1123 c arg3 harg3 arg4 harg4 arg5 harg5 arg6 harg6 arg7 harg7 arg15 harg15 arg16 harg16 arg17 harg17 x2 x3 x4 x5 x6 xs2 xs3 xs4) from rfl)).mpr (isInv (lowerB c arg3 harg3 arg4 harg4 arg5 harg5 arg6 harg6 arg7 harg7 arg15 harg15 arg16 harg16 arg17 harg17 x2 x3 x4 x5 x6
      xs2 xs3 xs4 h4 h6 hem hev))

include him in
theorem pieces8B : View.PiecesOf (G8 x2 x3 x4) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs2 xs3 xs4 xs5 xs6).2.1 := by
  iterate 16
    refine piecesOf_cons (fun x => ?_) ?_
    · apply codeM_piece x2 x3 x4 x5 x6 _ _ (invB c arg3 harg3 arg4 harg4 arg5 harg5 arg6 harg6 arg7 harg7 arg15 harg15 arg16 harg16
        arg17 harg17 x2 x3 x4 x5 x6 xs2 xs3 xs4 h4 h6 hem hev)
      case hp => rfl
      case hw => exact chunk_read (pieces0B c arg3 harg3 arg4 harg4 arg5 harg5 arg16 harg16 x2 x3 x4 xs3 h4 hem)
                    (View.cover_of_tiledL _ S128x256.size (by sl_kernel_rfl)) _
      case him => exact loaded harg18 him _
  exact trivial

include hiv in
theorem pieces10B : View.PiecesOf (G10 x2 x5 x6) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs2 xs3 xs4 xs5 xs6).2.2.2.1 := by
  iterate 16
    refine piecesOf_cons (fun x => ?_) ?_
    · apply codeV_piece x2 x3 x4 x5 x6 _ _ (invB c arg3 harg3 arg4 harg4 arg5 harg5 arg6 harg6 arg7 harg7 arg15 harg15 arg16 harg16
        arg17 harg17 x2 x3 x4 x5 x6 xs2 xs3 xs4 h4 h6 hem hev)
      case hp => rfl
      case hw => exact chunk_read (pieces1B c arg3 harg3 arg6 harg6 arg7 harg7 arg17 harg17 x2 x5 x6 xs4 h6 hev)
                    (View.cover_of_tiledL _ S128x256.size (by sl_kernel_rfl)) _
      case hiv => exact loaded harg19 hiv _
  exact trivial

end B

end Cert.Adam
-- ==== Proof.First.lean ====
/-
  The lists of stores of the first grid point of a sweep, which also writes the spreading matrices.
-/
module

public import proofs.«01_k».proof.Proof.Lists

@[expose] public section

set_option maxRecDepth 16384

noncomputable section

open Idealize.ShloMosaic Idealize.ShloMosaic.TcCoe Idealize.SL.Sem
open Cert.KernelIdeal Cert.KernelIdeal.Gen

namespace Cert.Adam

variable (c : Dev nD) (i : grid0.Coords) (arg1 : Memref sig .tc .smem S1 .i32) (harg1 : arg1.IsWhole)
variable (arg2 : Memref sig .tc .vmem S128x4096 .f32) (harg2 : arg2.IsWhole)
variable (arg3 : Memref sig .tc .vmem S128x4096 .bf16) (harg3 : arg3.IsWhole)
variable (arg4 : Memref sig .tc .vmem S128x4096 .fp8e4m3) (harg4 : arg4.IsWhole)
variable (arg5 : Memref sig .tc .vmem S32x128 .f32) (harg5 : arg5.IsWhole)
variable (arg6 : Memref sig .tc .vmem S128x4096 .fp8e5m2) (harg6 : arg6.IsWhole)
variable (arg7 : Memref sig .tc .vmem S32x128 .f32) (harg7 : arg7.IsWhole)
variable (arg8 : Memref sig .tc .vmem S128x4096 .f32) (harg8 : arg8.IsWhole)
variable (arg9 : Memref sig .tc .vmem S128x4096 .fp8e4m3) (harg9 : arg9.IsWhole)
variable (arg10 : Memref sig .tc .vmem S32x128 .f32) (harg10 : arg10.IsWhole)
variable (arg11 : Memref sig .tc .vmem S128x4096 .fp8e5m2) (harg11 : arg11.IsWhole)
variable (arg12 : Memref sig .tc .vmem S32x128 .f32) (harg12 : arg12.IsWhole)
variable (arg13 : Memref sig .tc .vmem S128x4096 .f32) (harg13 : arg13.IsWhole)
variable (arg14 : Memref sig .tc .vmem S128x4096 .f32) (harg14 : arg14.IsWhole)
variable (arg15 : Memref sig .tc .vmem S128x128 .f32) (harg15 : arg15.IsWhole)
variable (arg16 : Memref sig .tc .vmem S128x4096 .bf16) (harg16 : arg16.IsWhole)
variable (arg17 : Memref sig .tc .vmem S128x4096 .bf16) (harg17 : arg17.IsWhole)
variable (arg18 : Memref sig .tc .vmem S64x4096 .bf16) (harg18 : arg18.IsWhole)
variable (arg19 : Memref sig .tc .vmem S64x4096 .bf16) (harg19 : arg19.IsWhole) (x0 : Vec Ideal S1 .i32)
variable (x1 : Vec Ideal S128x4096 .f32) (x2 : Vec Ideal S128x4096 .bf16) (x3 : Vec Ideal S128x4096 .fp8e4m3)
variable (x4 : Vec Ideal S32x128 .f32) (x5 : Vec Ideal S128x4096 .fp8e5m2) (x6 : Vec Ideal S32x128 .f32)
variable (h4 : ∀ i, ∃ s : ℝ, x4 i = (s : EReal)) (h6 : ∀ i, ∃ s : ℝ, x6 i = (s : EReal))

/-- A matrix's columns, loaded as a chunk from a buffer whose last store is the whole matrix. -/
theorem filled {n : ℕ} {S : ℕ → ℕ → EReal} {arg : Memref sig .tc .vmem ⟨2, ![n, 4096]⟩ .bf16}
    {em : Vec Ideal ⟨2, ![n, 4096]⟩ .bf16} (h : ∀ (k : Fin n) (c : Fin 4096), em (ix2 k c) = S k c)
    (inz : ∀ a, (![0, 0] : Fin 2 → ℕ) a + (⟨2, ![n, 4096]⟩ : Shape).size a ≤ (⟨2, ![n, 4096]⟩ : Shape).size a) {o : ℕ}
    (inc : ∀ a, (![0, o] : Fin 2 → ℕ) a + (⟨2, ![n, 256]⟩ : Shape).size a ≤ (⟨2, ![n, 4096]⟩ : Shape).size a) :
    IsSpread S o (arg.view.readCov [⟨Rect.unit (s := ⟨2, ![n, 4096]⟩) ![0, 0] (⟨2, ![n, 4096]⟩ : Shape).size inz, em⟩]
      (Rect.unit (s := ⟨2, ![n, 4096]⟩) ![0, o] (⟨2, ![n, 256]⟩ : Shape).size inc).toLoadRect) := by
  rw [View.readCov_fill _ _ _ _ _ (by intro a; fin_cases a <;> rfl)]
  exact spread_read h inc

theorem hemA (k : Fin 128) (c : Fin 4096) : kernelRun0_A.sl.v1530 (F := Ideal) (ix2 k c) = emS k c := em_at k c
theorem hevA (k : Fin 128) (c : Fin 4096) : kernelRun0_A.sl.v1576 (F := Ideal) (ix2 k c) = evS k c := ev_at k c
theorem himA (k : Fin 64) (c : Fin 4096) : kernelRun0_A.sl.v1612 (F := Ideal) (ix2 k c) = spread1 0 k c := im_at k c
theorem hivA (k : Fin 64) (c : Fin 4096) : kernelRun0_A.sl.v1648 (F := Ideal) (ix2 k c) = spread1 32 k c := iv_at k c

/-- The whole buffer, loaded over stores whose last 64 are blocks of `G` where they cover. -/
theorem read_lower_over (L : List (View.Piece (Elt Ideal) S128x128 .f32)) {G : Vec Ideal S128x128 .f32}
    (hp : View.PiecesOf G (L.take 64)) {y : S128x128.Idx} (hc : ∃ p ∈ L.take 64, y ∈ p.1.set)
    (inz : ∀ a, (![0, 0] : Fin 2 → ℕ) a + S128x128.size a ≤ S128x128.size a) :
    arg15.view.readCov L (Rect.unit (s := S128x128) ![0, 0] S128x128.size inz).toLoadRect y = G y := by
  rw [View.readCov_eq_canon']
  have e : (Rect.unit (s := S128x128) ![0, 0] S128x128.size inz).toLoadRect.idx y = y := by
    funext a; apply Fin.ext; fin_cases a <;> exact (Nat.zero_add _).trans (Nat.one_mul _)
  refine (congrArg (View.canon L) e).trans ?_
  rw [← List.take_append_drop 64 L]
  exact View.canon_append_of_piecesOf G _ _ hp y hc

section A
variable (hc0 : cond0_0 i)

include h4 h6

theorem pieces7A : View.PiecesOf (G7 x2 x3 x4 x5 x6 (x0 (ix1 0)) x1)
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).1 := by
  iterate 16 refine ⟨fun x => dp_piece harg3 harg4 harg5 harg6 harg7 x2 x3 x4 x5 x6 _ _ _ _ harg2 (step_read arg1 harg1 x0 _ _) x1
    h4 h6 (filled (arg := arg16) hemA _ _) (filled (arg := arg17) hevA _ _) x, ?_⟩
  exact trivial

omit h6 in
theorem pieces0A : View.PiecesOf (G0 x2 x3 x4) (kernelRun0_A.sl.HS0_16 c arg3 harg3 arg4 harg4 arg5 harg5 arg16 x2 x3 x4) := by
  iterate 16 refine ⟨fun x => m_piece harg3 harg4 harg5 x2 x3 x4 _ _ _ h4 (filled (arg := arg16) hemA _ _) x, ?_⟩
  exact trivial

omit h4 in
theorem pieces1A : View.PiecesOf (G1 x2 x5 x6) (kernelRun0_A.sl.HS1_16 c arg3 harg3 arg6 harg6 arg7 harg7 arg17 x2 x5 x6) := by
  iterate 16 refine ⟨fun x => v_piece harg3 harg6 harg7 x2 x5 x6 _ _ _ h6 (filled (arg := arg17) hevA _ _) x, ?_⟩
  exact trivial

theorem pieces2A (J : Vec Ideal S128x128 .f32) : View.PiecesOf (GA x2 x3 x4 x5 x6 J) ((kernelRun0_A.sl.HS2_65 c arg3 harg3 arg4 harg4 arg5
    harg5 arg6 harg6 arg7 harg7 arg16 arg17 x2 x3 x4 x5 x6).take 64) := by
  iterate 32
    refine piecesOf_cons (fun x => ?_) (piecesOf_cons (fun x => ?_) ?_)
    · apply colV_piece harg3 harg6 harg7 x2 x3 x4 x5 x6 _ _ _ J h6
      case hw => rfl
      case hw1 => rfl
      case hw2 => rfl
      case hu => rfl
      case hv => rfl
      case hev => exact filled (arg := arg17) hevA _ _
      all_goals omega
    · apply colM_piece harg3 harg4 harg5 x2 x3 x4 x5 x6 _ _ _ J h4
      case hw => rfl
      case hw1 => rfl
      case hw2 => rfl
      case hu => rfl
      case ha => rfl
      case hv => rfl
      case hem => exact filled (arg := arg16) hemA _ _
      all_goals omega
  exact trivial

omit h4 h6 in
theorem cover2A (r : Fin 128) (l : Fin 128) (hl : (l : ℕ) < 64) : ∃ p ∈ (kernelRun0_A.sl.HS2_65 c arg3 harg3 arg4 harg4 arg5
    harg5 arg6 harg6 arg7 harg7 arg16 arg17 x2 x3 x4 x5 x6).take 64, ix2 r l ∈ p.1.set :=
  cover_lower (by sl_kernel_rfl) r l hl

theorem lowerA : Lower x2 x3 x4 x5 x6 (fun _ => 0) (kernelRun0_A.sl.v1123 c arg3 harg3 arg4 harg4 arg5 harg5 arg6 harg6 arg7 harg7 arg15 arg16 arg17 x2 x3 x4 x5 x6) := by
  intro r l hl
  have hc := cover2A c arg3 harg3 arg4 harg4 arg5 harg5 arg6 harg6 arg7 harg7 arg16 arg17 x2 x3 x4 x5 x6 r l hl
  have hp := pieces2A c arg3 harg3 arg4 harg4 arg5 harg5 arg6 harg6 arg7 harg7 arg16 arg17 x2 x3 x4 x5 x6
    h4 h6 (fun _ => 0)
  exact read_lower_over arg15 _ hp hc _

theorem v1191A (x : S32x128.Idx) : kernelRun0_A.sl.v1191 c arg3 harg3 arg4 harg4 arg5 harg5 arg6 harg6 arg7 harg7 arg15 arg16 arg17 x2 x3 x4 x5 x6 x = G9 x2 x3 x4 x :=
  (congrFun (show _ = scaleMOf (kernelRun0_A.sl.v1123 c arg3 harg3 arg4 harg4 arg5 harg5 arg6 harg6 arg7 harg7 arg15 arg16 arg17 x2 x3 x4 x5 x6) from rfl) x).trans
    (scaleM_eq (lowerA c arg3 harg3 arg4 harg4 arg5 harg5 arg6 harg6 arg7 harg7 arg15 arg16 arg17 x2 x3 x4 x5 x6 h4 h6) x)

theorem v1193A (x : S32x128.Idx) : kernelRun0_A.sl.v1193 c arg3 harg3 arg4 harg4 arg5 harg5 arg6 harg6 arg7 harg7 arg15 arg16 arg17 x2 x3 x4 x5 x6 x = G11 x2 x5 x6 x :=
  (congrFun (show _ = scaleVOf (kernelRun0_A.sl.v1123 c arg3 harg3 arg4 harg4 arg5 harg5 arg6 harg6 arg7 harg7 arg15 arg16 arg17 x2 x3 x4 x5 x6) from rfl) x).trans
    (scaleV_eq (lowerA c arg3 harg3 arg4 harg4 arg5 harg5 arg6 harg6 arg7 harg7 arg15 arg16 arg17 x2 x3 x4 x5 x6 h4 h6) x)

theorem invA : IsInv x2 x3 x4 x5 x6 (kernelRun0_A.sl.v1196 c arg3 harg3 arg4 harg4 arg5 harg5 arg6 harg6 arg7 harg7 arg15 arg16 arg17 x2 x3 x4 x5 x6) :=
  (congrArg (IsInv x2 x3 x4 x5 x6) (show _ = invOf (kernelRun0_A.sl.v1123 c arg3 harg3 arg4 harg4 arg5 harg5 arg6 harg6 arg7 harg7 arg15 arg16 arg17 x2 x3 x4 x5 x6) from rfl)).mpr (isInv (lowerA c arg3 harg3 arg4 harg4 arg5 harg5 arg6 harg6 arg7 harg7 arg15 arg16 arg17 x2 x3 x4 x5 x6 h4 h6))

theorem pieces8A : View.PiecesOf (G8 x2 x3 x4) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.1 := by
  iterate 16
    refine piecesOf_cons (fun x => ?_) ?_
    · apply codeM_piece x2 x3 x4 x5 x6 _ _ (invA c arg3 harg3 arg4 harg4 arg5 harg5 arg6 harg6 arg7 harg7 arg15 arg16
        arg17 x2 x3 x4 x5 x6 h4 h6)
      case hp => rfl
      case hw => exact chunk_read (pieces0A c arg3 harg3 arg4 harg4 arg5 harg5 arg16 x2 x3 x4 h4)
                    (View.cover_of_tiledL _ S128x256.size (by sl_kernel_rfl)) _
      case him => exact filled (arg := arg18) himA _ _
  exact trivial

theorem pieces10A : View.PiecesOf (G10 x2 x5 x6) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6).2.2.2.1 := by
  iterate 16
    refine piecesOf_cons (fun x => ?_) ?_
    · apply codeV_piece x2 x3 x4 x5 x6 _ _ (invA c arg3 harg3 arg4 harg4 arg5 harg5 arg6 harg6 arg7 harg7 arg15 arg16
        arg17 x2 x3 x4 x5 x6 h4 h6)
      case hp => rfl
      case hw => exact chunk_read (pieces1A c arg3 harg3 arg6 harg6 arg7 harg7 arg17 x2 x5 x6 h6)
                    (View.cover_of_tiledL _ S128x256.size (by sl_kernel_rfl)) _
      case hiv => exact filled (arg := arg19) hivA _ _
  exact trivial

end A

end Cert.Adam
-- ==== Proof.Outputs.lean ====
/-
  What one grid point leaves in each result's block and in the buffers carried to the next point.
-/
module

public import proofs.«01_k».proof.Proof.First
public import proofs.«01_k».proof.Proof.Gen.KernelIdeal.Value

@[expose] public section

set_option maxRecDepth 16384

noncomputable section

open Idealize.ShloMosaic Idealize.ShloMosaic.TcCoe Idealize.SL.Sem
open Cert.KernelIdeal Cert.KernelIdeal.Gen

namespace Cert.Adam

variable (c : Dev nD) (i : grid0.Coords) (arg1 : Memref sig .tc .smem S1 .i32) (harg1 : arg1.IsWhole)
variable (arg2 : Memref sig .tc .vmem S128x4096 .f32) (harg2 : arg2.IsWhole)
variable (arg3 : Memref sig .tc .vmem S128x4096 .bf16) (harg3 : arg3.IsWhole)
variable (arg4 : Memref sig .tc .vmem S128x4096 .fp8e4m3) (harg4 : arg4.IsWhole)
variable (arg5 : Memref sig .tc .vmem S32x128 .f32) (harg5 : arg5.IsWhole)
variable (arg6 : Memref sig .tc .vmem S128x4096 .fp8e5m2) (harg6 : arg6.IsWhole)
variable (arg7 : Memref sig .tc .vmem S32x128 .f32) (harg7 : arg7.IsWhole)
variable (arg8 : Memref sig .tc .vmem S128x4096 .f32) (harg8 : arg8.IsWhole)
variable (arg9 : Memref sig .tc .vmem S128x4096 .fp8e4m3) (harg9 : arg9.IsWhole)
variable (arg10 : Memref sig .tc .vmem S32x128 .f32) (harg10 : arg10.IsWhole)
variable (arg11 : Memref sig .tc .vmem S128x4096 .fp8e5m2) (harg11 : arg11.IsWhole)
variable (arg12 : Memref sig .tc .vmem S32x128 .f32) (harg12 : arg12.IsWhole)
variable (arg13 : Memref sig .tc .vmem S128x4096 .f32) (harg13 : arg13.IsWhole)
variable (arg14 : Memref sig .tc .vmem S128x4096 .f32) (harg14 : arg14.IsWhole)
variable (arg15 : Memref sig .tc .vmem S128x128 .f32) (harg15 : arg15.IsWhole)
variable (arg16 : Memref sig .tc .vmem S128x4096 .bf16) (harg16 : arg16.IsWhole)
variable (arg17 : Memref sig .tc .vmem S128x4096 .bf16) (harg17 : arg17.IsWhole)
variable (arg18 : Memref sig .tc .vmem S64x4096 .bf16) (harg18 : arg18.IsWhole)
variable (arg19 : Memref sig .tc .vmem S64x4096 .bf16) (harg19 : arg19.IsWhole) (x0 : Vec Ideal S1 .i32)
variable (x1 : Vec Ideal S128x4096 .f32) (x2 : Vec Ideal S128x4096 .bf16) (x3 : Vec Ideal S128x4096 .fp8e4m3)
variable (x4 : Vec Ideal S32x128 .f32) (x5 : Vec Ideal S128x4096 .fp8e5m2) (x6 : Vec Ideal S32x128 .f32)
variable (xs2 : Vec Ideal S128x128 .f32) (xs3 : Vec Ideal S128x4096 .bf16) (xs4 : Vec Ideal S128x4096 .bf16)
variable (xs5 : Vec Ideal S64x4096 .bf16) (xs6 : Vec Ideal S64x4096 .bf16)
variable (h4 : ∀ i, ∃ s : ℝ, x4 i = (s : EReal)) (h6 : ∀ i, ∃ s : ℝ, x6 i = (s : EReal))

section A
variable (hc0 : cond0_0 i)

include h4 h6

theorem out7A : out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 = G7 x2 x3 x4 x5 x6 (x0 (ix1 0)) x1 := by
  unfold out0_A_7
  rw [View.read_writes_junk_eq_canon]
  funext y
  exact View.canon_apply_of_pieces _ _ (pieces7A (h4 := h4) (h6 := h6) ..).mem y (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 y)

theorem out8A : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 = G8 x2 x3 x4 := by
  unfold out0_A_8
  rw [View.read_writes_junk_eq_canon]
  funext y
  exact View.canon_apply_of_pieces _ _ (pieces8A (h4 := h4) (h6 := h6) ..).mem y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 y)

theorem out10A : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 = G10 x2 x5 x6 := by
  unfold out0_A_10
  rw [View.read_writes_junk_eq_canon]
  funext y
  exact View.canon_apply_of_pieces _ _ (pieces10A (h4 := h4) (h6 := h6) ..).mem y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 y)

theorem out9A : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 = G9 x2 x3 x4 := by
  unfold out0_A_9
  rw [View.read_writes_junk_eq_canon]
  refine Eq.trans (View.canon_cons_unit_lit (S := S32x128) inb_S32x128_S32x128_0_0 _ _ (by intro a; fin_cases a <;> rfl)) ?_
  exact funext (v1191A c arg3 harg3 arg4 harg4 arg5 harg5 arg6 harg6 arg7 harg7 arg15 arg16 arg17 x2 x3 x4 x5 x6 h4 h6)

theorem out11A : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 = G11 x2 x5 x6 := by
  unfold out0_A_11
  rw [View.read_writes_junk_eq_canon]
  refine Eq.trans (View.canon_cons_unit_lit (S := S32x128) inb_S32x128_S32x128_0_0 _ _ (by intro a; fin_cases a <;> rfl)) ?_
  exact funext (v1193A c arg3 harg3 arg4 harg4 arg5 harg5 arg6 harg6 arg7 harg7 arg15 arg16 arg17 x2 x3 x4 x5 x6 h4 h6)
end A

section B
variable (hc0 : ¬cond0_0 i)
variable (hem : ∀ (k : Fin 128) (c : Fin 4096), xs3 (ix2 k c) = emS k c)
variable (hev : ∀ (k : Fin 128) (c : Fin 4096), xs4 (ix2 k c) = evS k c)
variable (him : ∀ (k : Fin 64) (c : Fin 4096), xs5 (ix2 k c) = spread1 0 k c)
variable (hiv : ∀ (k : Fin 64) (c : Fin 4096), xs6 (ix2 k c) = spread1 32 k c)

include h4 h6 hem hev him hiv

theorem out7B : out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs2 xs3 xs4 xs5 xs6 = G7 x2 x3 x4 x5 x6 (x0 (ix1 0)) x1 := by
  unfold out0_B_7
  rw [View.read_writes_junk_eq_canon]
  funext y
  exact View.canon_apply_of_pieces _ _ (pieces7B (h4 := h4) (h6 := h6) (hem := hem) (hev := hev) ..).mem y (cover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs2 xs3 xs4 xs5 xs6 y)

theorem out8B : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs2 xs3 xs4 xs5 xs6 = G8 x2 x3 x4 := by
  unfold out0_B_8
  rw [View.read_writes_junk_eq_canon]
  funext y
  exact View.canon_apply_of_pieces _ _ (pieces8B (h4 := h4) (h6 := h6) (hem := hem) (hev := hev) (him := him) ..).mem y (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs2 xs3 xs4 xs5 xs6 y)

theorem out10B : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs2 xs3 xs4 xs5 xs6 = G10 x2 x5 x6 := by
  unfold out0_B_10
  rw [View.read_writes_junk_eq_canon]
  funext y
  exact View.canon_apply_of_pieces _ _ (pieces10B (h4 := h4) (h6 := h6) (hem := hem) (hev := hev) (hiv := hiv) ..).mem y (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs2 xs3 xs4 xs5 xs6 y)

theorem out9B : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs2 xs3 xs4 xs5 xs6 = G9 x2 x3 x4 := by
  unfold out0_B_9
  rw [View.read_writes_junk_eq_canon]
  refine Eq.trans (View.canon_cons_unit_lit (S := S32x128) inb_S32x128_S32x128_0_0 _ _ (by intro a; fin_cases a <;> rfl)) ?_
  exact funext (v1191B c arg3 harg3 arg4 harg4 arg5 harg5 arg6 harg6 arg7 harg7 arg15 harg15 arg16 harg16 arg17 harg17 x2 x3 x4 x5 x6 xs2 xs3 xs4 h4 h6 hem hev)

theorem out11B : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 xs2 xs3 xs4 xs5 xs6 = G11 x2 x5 x6 := by
  unfold out0_B_11
  rw [View.read_writes_junk_eq_canon]
  refine Eq.trans (View.canon_cons_unit_lit (S := S32x128) inb_S32x128_S32x128_0_0 _ _ (by intro a; fin_cases a <;> rfl)) ?_
  exact funext (v1193B c arg3 harg3 arg4 harg4 arg5 harg5 arg6 harg6 arg7 harg7 arg15 harg15 arg16 harg16 arg17 harg17 x2 x3 x4 x5 x6 xs2 xs3 xs4 h4 h6 hem hev)
end B

end Cert.Adam
-- ==== Proof.Sweep.lean ====
/-
  The sweep over the grid: by induction on the point, each result's block is what the block functions say, and the
  four 0/1 matrices built at the first point are still there at every later one.
-/
module

public import proofs.«01_k».proof.Proof.Outputs

@[expose] public section

set_option maxRecDepth 16384

noncomputable section

open Idealize.ShloMosaic Idealize.ShloMosaic.TcCoe Idealize.SL.Sem
open Cert.KernelIdeal Cert.KernelIdeal.Gen

namespace Cert.Adam

variable (m : (ℓ : Loc nD τ sig) → Buf (Elt Ideal) ℓ) (c : Dev nD)

/-- The blocks of the seven arguments at point `t`. -/
abbrev b0 (t : Fin cfg0.N) : Vec Ideal S1 .i32 := iblk m c 0 t
abbrev b1 (t : Fin cfg0.N) : Vec Ideal S128x4096 .f32 := iblk m c 1 t
abbrev b2 (t : Fin cfg0.N) : Vec Ideal S128x4096 .bf16 := iblk m c 2 t
abbrev b3 (t : Fin cfg0.N) : Vec Ideal S128x4096 .fp8e4m3 := iblk m c 3 t
abbrev b4 (t : Fin cfg0.N) : Vec Ideal S32x128 .f32 := iblk m c 4 t
abbrev b5 (t : Fin cfg0.N) : Vec Ideal S128x4096 .fp8e5m2 := iblk m c 5 t
abbrev b6 (t : Fin cfg0.N) : Vec Ideal S32x128 .f32 := iblk m c 6 t

/-- The contents of the results' blocks and of the carried buffers after a point. -/
abbrev Left : Type :=
  Vec Ideal S128x4096 .f32 × Vec Ideal S128x4096 .fp8e4m3 × Vec Ideal S32x128 .f32 × Vec Ideal S128x4096 .fp8e5m2 × Vec Ideal S32x128 .f32
    × Vec Ideal S128x128 .f32 × Vec Ideal S128x4096 .bf16 × Vec Ideal S128x4096 .bf16 × Vec Ideal S64x4096 .bf16 × Vec Ideal S64x4096 .bf16

/-- What the body leaves at point `t`: the five results' blocks and the four matrices. -/
structure Leaves (t : Fin cfg0.N) (o : Left) : Prop where
  out7 : o.1
    = G7 (b2 m c t) (b3 m c t) (b4 m c t) (b5 m c t) (b6 m c t) (b0 m c t (ix1 0)) (b1 m c t)
  out8 : o.2.1 = G8 (b2 m c t) (b3 m c t) (b4 m c t)
  out9 : o.2.2.1 = G9 (b2 m c t) (b3 m c t) (b4 m c t)
  out10 : o.2.2.2.1 = G10 (b2 m c t) (b5 m c t) (b6 m c t)
  out11 : o.2.2.2.2.1 = G11 (b2 m c t) (b5 m c t) (b6 m c t)
  em : ∀ (k : Fin 128) (j : Fin 4096), o.2.2.2.2.2.2.1 (ix2 k j) = emS k j
  ev : ∀ (k : Fin 128) (j : Fin 4096), o.2.2.2.2.2.2.2.1 (ix2 k j) = evS k j
  im : ∀ (k : Fin 64) (j : Fin 4096), o.2.2.2.2.2.2.2.2.1 (ix2 k j) = spread1 0 k j
  iv : ∀ (k : Fin 64) (j : Fin 4096), o.2.2.2.2.2.2.2.2.2 (ix2 k j) = spread1 32 k j

section
variable (h4 : ∀ t i, ∃ s : ℝ, b4 m c t i = (s : EReal)) (h6 : ∀ t i, ∃ s : ℝ, b6 m c t i = (s : EReal))

include h4 h6

set_option maxHeartbeats 1000000 in
/-- The first point. -/
theorem leavesA (t : Fin cfg0.N) (h0 : t.val % 88 = 0) :
    Leaves m c t (outsAt0 m c t.val t.isLt) := by
  constructor <;> rw [outsAt0_A m c t h0]
  · dsimp only
    exact out7A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (b0 m c t) (b1 m c t) (b2 m c t) (b3 m c t) (b4 m c t) (b5 m c t) (b6 m c t) (h4 t) (h6 t) ((hcond0_0 t).mpr h0)
  · dsimp only
    exact out8A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (b0 m c t) (b1 m c t) (b2 m c t) (b3 m c t) (b4 m c t) (b5 m c t) (b6 m c t) (h4 t) (h6 t) ((hcond0_0 t).mpr h0)
  · dsimp only
    exact out9A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (b0 m c t) (b1 m c t) (b2 m c t) (b3 m c t) (b4 m c t) (b5 m c t) (b6 m c t) (h4 t) (h6 t) ((hcond0_0 t).mpr h0)
  · dsimp only
    exact out10A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (b0 m c t) (b1 m c t) (b2 m c t) (b3 m c t) (b4 m c t) (b5 m c t) (b6 m c t) (h4 t) (h6 t) ((hcond0_0 t).mpr h0)
  · dsimp only
    exact out11A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (b0 m c t) (b1 m c t) (b2 m c t) (b3 m c t) (b4 m c t) (b5 m c t) (b6 m c t) (h4 t) (h6 t) ((hcond0_0 t).mpr h0)
  · intro k j
    refine (congrFun ?_ _).trans (hemA k j)
    dsimp only
    unfold sout0_A_3
    rw [View.read_writes_junk_eq_canon]
    exact View.canon_cons_unit_lit (S := S128x4096) inb_S128x4096_S128x4096_0_0 _ _ (by intro a; fin_cases a <;> rfl)
  · intro k j
    refine (congrFun ?_ _).trans (hevA k j)
    dsimp only
    unfold sout0_A_4
    rw [View.read_writes_junk_eq_canon]
    exact View.canon_cons_unit_lit (S := S128x4096) inb_S128x4096_S128x4096_0_0 _ _ (by intro a; fin_cases a <;> rfl)
  · intro k j
    refine (congrFun ?_ _).trans (himA k j)
    dsimp only
    unfold sout0_A_5
    rw [View.read_writes_junk_eq_canon]
    exact View.canon_cons_unit_lit (S := S64x4096) inb_S64x4096_S64x4096_0_0 _ _ (by intro a; fin_cases a <;> rfl)
  · intro k j
    refine (congrFun ?_ _).trans (hivA k j)
    dsimp only
    unfold sout0_A_6
    rw [View.read_writes_junk_eq_canon]
    exact View.canon_cons_unit_lit (S := S64x4096) inb_S64x4096_S64x4096_0_0 _ _ (by intro a; fin_cases a <;> rfl)

set_option maxHeartbeats 1000000 in
/-- A later point, after the one before it. -/
theorem leavesB (t : Fin cfg0.N) (h0 : ¬t.val % 88 = 0) (hlt : t.val - 1 < cfg0.N)
    (ih : Leaves m c ⟨t.val - 1, hlt⟩ (outsAt0 m c (t.val - 1) hlt)) :
    Leaves m c t (outsAt0 m c t.val t.isLt) := by
  rw [outsAt0_B m c t h0]
  generalize outsAt0 m c (t.val - 1) _ = o at ih ⊢
  constructor
  · dsimp only
    exact out7B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (b0 m c t) (b1 m c t) (b2 m c t) (b3 m c t) (b4 m c t) (b5 m c t) (b6 m c t) o.2.2.2.2.2.1 o.2.2.2.2.2.2.1 o.2.2.2.2.2.2.2.1 o.2.2.2.2.2.2.2.2.1 o.2.2.2.2.2.2.2.2.2 (h4 t) (h6 t) (fun h => h0 ((hcond0_0 t).mp h)) ih.em ih.ev ih.im ih.iv
  · dsimp only
    exact out8B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (b0 m c t) (b1 m c t) (b2 m c t) (b3 m c t) (b4 m c t) (b5 m c t) (b6 m c t) o.2.2.2.2.2.1 o.2.2.2.2.2.2.1 o.2.2.2.2.2.2.2.1 o.2.2.2.2.2.2.2.2.1 o.2.2.2.2.2.2.2.2.2 (h4 t) (h6 t) (fun h => h0 ((hcond0_0 t).mp h)) ih.em ih.ev ih.im ih.iv
  · dsimp only
    exact out9B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (b0 m c t) (b1 m c t) (b2 m c t) (b3 m c t) (b4 m c t) (b5 m c t) (b6 m c t) o.2.2.2.2.2.1 o.2.2.2.2.2.2.1 o.2.2.2.2.2.2.2.1 o.2.2.2.2.2.2.2.2.1 o.2.2.2.2.2.2.2.2.2 (h4 t) (h6 t) (fun h => h0 ((hcond0_0 t).mp h)) ih.em ih.ev ih.im ih.iv
  · dsimp only
    exact out10B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (b0 m c t) (b1 m c t) (b2 m c t) (b3 m c t) (b4 m c t) (b5 m c t) (b6 m c t) o.2.2.2.2.2.1 o.2.2.2.2.2.2.1 o.2.2.2.2.2.2.2.1 o.2.2.2.2.2.2.2.2.1 o.2.2.2.2.2.2.2.2.2 (h4 t) (h6 t) (fun h => h0 ((hcond0_0 t).mp h)) ih.em ih.ev ih.im ih.iv
  · dsimp only
    exact out11B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (b0 m c t) (b1 m c t) (b2 m c t) (b3 m c t) (b4 m c t) (b5 m c t) (b6 m c t) o.2.2.2.2.2.1 o.2.2.2.2.2.2.1 o.2.2.2.2.2.2.2.1 o.2.2.2.2.2.2.2.2.1 o.2.2.2.2.2.2.2.2.2 (h4 t) (h6 t) (fun h => h0 ((hcond0_0 t).mp h)) ih.em ih.ev ih.im ih.iv
  · exact ih.em
  · exact ih.ev
  · exact ih.im
  · exact ih.iv

/-- Every point. -/
theorem leaves : ∀ (n : ℕ) (hn : n < cfg0.N), Leaves m c ⟨n, hn⟩ (outsAt0 m c n hn) := by
  intro n
  induction n with
  | zero => exact fun hn => leavesA m c h4 h6 ⟨0, hn⟩ rfl
  | succ n ih =>
    intro hn
    have hN : cfg0.N = 88 := N_0
    have hlt : n < cfg0.N := by omega
    refine leavesB m c h4 h6 ⟨n + 1, hn⟩ ?_ hlt (ih hlt)
    show ¬(n + 1) % 88 = 0
    omega
end

end Cert.Adam

end
-- ==== Proof.Whole.lean ====
/-
  The five results as functions of the whole argument arrays, and each grid point's blocks read off those arrays.
-/
module

public import proofs.«01_k».proof.Proof.Sweep
public import Idealize.ShloMosaic.Lib.StableHlo.RunRead

@[expose] public section

set_option maxRecDepth 16384

noncomputable section

open Idealize.ShloMosaic Idealize.ShloMosaic.TcCoe Idealize.SL.Sem
open Cert.KernelIdeal Cert.KernelIdeal.Gen

namespace Cert.Adam

section
variable (G : Vec Ideal S11264x4096 .bf16) (M : Vec Ideal S11264x4096 .fp8e4m3) (S : Vec Ideal S11264x32 .f32)
variable (V : Vec Ideal S11264x4096 .fp8e5m2) (T : Vec Ideal S11264x32 .f32)
variable (r : Fin 11264)

/-- The new first moment. -/
def wM (c : Fin 4096) : EReal :=
  M (ix2 r c) * (S (ix2 r ⟨c / 128, by omega⟩) * lit 0x3F666666#32) + lit 0x3DCCCCCD#32 * G (ix2 r c)

/-- The new second moment. -/
def wV (c : Fin 4096) : EReal :=
  V (ix2 r c) * (T (ix2 r ⟨c / 128, by omega⟩) * lit 0x3F7FBE77#32) + lit 0x3A83126F#32 * (G (ix2 r c) * G (ix2 r c))

/-- The greatest magnitude of the first moment in a group, over the format's greatest number. -/
def wA (g : Fin 32) : EReal :=
  Finset.fold max (lit 0xFF800000#32)
    (fun j : Fin 128 => FloatOps.absf (F := Ideal) (φ := .f32) (wM G M S r ⟨128 * g + j, by omega⟩)) Finset.univ
    * lit 0x3B124925#32

/-- The same of the second moment. -/
def wB (g : Fin 32) : EReal :=
  Finset.fold max (lit 0xFF800000#32) (fun j : Fin 128 => max (wV G V T r ⟨128 * g + j, by omega⟩) 0) Finset.univ
    * lit 0x37924925#32
end

variable (m : (ℓ : Loc nD τ sig) → Buf (Elt Ideal) ℓ) (c : Dev nD)

/-- The argument arrays. -/
abbrev aP : Vec Ideal S11264x4096 .f32 := m ((c : Thread nD τ).loc main_arg0)
abbrev aG : Vec Ideal S11264x4096 .bf16 := m ((c : Thread nD τ).loc main_arg1)
abbrev aMc : Vec Ideal S11264x4096 .fp8e4m3 := m ((c : Thread nD τ).loc main_arg2)
abbrev aMs : Vec Ideal S11264x32 .f32 := m ((c : Thread nD τ).loc main_arg3)
abbrev aVc : Vec Ideal S11264x4096 .fp8e5m2 := m ((c : Thread nD τ).loc main_arg4)
abbrev aVs : Vec Ideal S11264x32 .f32 := m ((c : Thread nD τ).loc main_arg5)
abbrev aT : Vec Ideal S_ .i32 := m ((c : Thread nD τ).loc main_arg6)

/-- Row `r` of block `t`. -/
def rowOf (t : Fin cfg0.N) (r : Fin 128) : Fin 11264 :=
  ⟨128 * t.val + r, by have h : t.val < 88 := lt_of_lt_of_eq t.isLt N_0; omega⟩

theorem V_scalar : V m c main_v0 = shapeCast S1 (aT m c) shapeCasts_S_S1 := by
  show StableHlo.after hostOps0 _ _ = _
  after_reads_simp
  rfl

theorem V_ms : V m c main_v1 = transpose S32x11264 [1, 0] (aMs m c) transposes_S11264x32_S32x11264_1_0 := by
  show StableHlo.after hostOps0 _ _ = _
  after_reads_simp

theorem V_vs : V m c main_v2 = transpose S32x11264 [1, 0] (aVs m c) transposes_S11264x32_S32x11264_1_0 := by
  show StableHlo.after hostOps0 _ _ = _
  after_reads_simp

theorem idx_rows : ∀ t : Fin cfg0.N, (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_5.index t (0 : Fin 2) = t.val ∧ win0_5.index t (1 : Fin 2) = 0)
    ∧ (win0_4.index t (0 : Fin 2) = 0 ∧ win0_4.index t (1 : Fin 2) = t.val)
    ∧ (win0_6.index t (0 : Fin 2) = 0 ∧ win0_6.index t (1 : Fin 2) = t.val)
    ∧ win0_0.index t (0 : Fin 1) = 0 :=
  (by decide +kernel : ∀ t : Fin grid0.N, _)

theorem b0_at (t : Fin cfg0.N) : b0 m c t (ix1 0) = aT m c ix0 := by
  refine (congrArg (V m c main_v0) (?_ : _ = ix1 0)).trans ((congrFun (V_scalar m c) _).trans ?_)
  · refine funext fun a => Fin.ext ?_
    fin_cases a
    exact Nat.lt_one_iff.mp (Fin.isLt _)
  · pointwise []

theorem b1_at (t : Fin cfg0.N) (r : Fin 128) (j : Fin 4096) : b1 m c t (ix2 r j) = aP m c (ix2 (rowOf t r) j) := by
  obtain ⟨e0, e1⟩ := (idx_rows t).1
  refine (congrArg (V m c main_arg0) (funext fun a => Fin.ext ?_)).trans (congrFun (V_main_arg0 m c) _)
  fin_cases a
  · show win0_1.index t (0 : Fin 2) * 128 + 1 * (r : ℕ) = 128 * t.val + r
    omega
  · show win0_1.index t (1 : Fin 2) * 4096 + 1 * (j : ℕ) = j
    omega

theorem b2_at (t : Fin cfg0.N) (r : Fin 128) (j : Fin 4096) : b2 m c t (ix2 r j) = aG m c (ix2 (rowOf t r) j) := by
  obtain ⟨e0, e1⟩ := (idx_rows t).2.1
  refine (congrArg (V m c main_arg1) (funext fun a => Fin.ext ?_)).trans (congrFun (V_main_arg1 m c) _)
  fin_cases a
  · show win0_2.index t (0 : Fin 2) * 128 + 1 * (r : ℕ) = 128 * t.val + r
    omega
  · show win0_2.index t (1 : Fin 2) * 4096 + 1 * (j : ℕ) = j
    omega

theorem b3_at (t : Fin cfg0.N) (r : Fin 128) (j : Fin 4096) : b3 m c t (ix2 r j) = aMc m c (ix2 (rowOf t r) j) := by
  obtain ⟨e0, e1⟩ := (idx_rows t).2.2.1
  refine (congrArg (V m c main_arg2) (funext fun a => Fin.ext ?_)).trans (congrFun (V_main_arg2 m c) _)
  fin_cases a
  · show win0_3.index t (0 : Fin 2) * 128 + 1 * (r : ℕ) = 128 * t.val + r
    omega
  · show win0_3.index t (1 : Fin 2) * 4096 + 1 * (j : ℕ) = j
    omega

theorem b5_at (t : Fin cfg0.N) (r : Fin 128) (j : Fin 4096) : b5 m c t (ix2 r j) = aVc m c (ix2 (rowOf t r) j) := by
  obtain ⟨e0, e1⟩ := (idx_rows t).2.2.2.1
  refine (congrArg (V m c main_arg4) (funext fun a => Fin.ext ?_)).trans (congrFun (V_main_arg4 m c) _)
  fin_cases a
  · show win0_5.index t (0 : Fin 2) * 128 + 1 * (r : ℕ) = 128 * t.val + r
    omega
  · show win0_5.index t (1 : Fin 2) * 4096 + 1 * (j : ℕ) = j
    omega

theorem b4_at (t : Fin cfg0.N) (g : Fin 32) (r : Fin 128) : b4 m c t (ix2 g r) = aMs m c (ix2 (rowOf t r) g) := by
  obtain ⟨e0, e1⟩ := (idx_rows t).2.2.2.2.1
  refine (congrArg (V m c main_v1) (?_ : _ = ix2 g (rowOf t r))).trans ((congrFun (V_ms m c) _).trans ?_)
  · refine funext fun a => Fin.ext ?_
    fin_cases a
    · show win0_4.index t (0 : Fin 2) * 32 + 1 * (g : ℕ) = g
      omega
    · show win0_4.index t (1 : Fin 2) * 128 + 1 * (r : ℕ) = 128 * t.val + r
      omega
  · pointwise []

theorem b6_at (t : Fin cfg0.N) (g : Fin 32) (r : Fin 128) : b6 m c t (ix2 g r) = aVs m c (ix2 (rowOf t r) g) := by
  obtain ⟨e0, e1⟩ := (idx_rows t).2.2.2.2.2.1
  refine (congrArg (V m c main_v2) (?_ : _ = ix2 g (rowOf t r))).trans ((congrFun (V_vs m c) _).trans ?_)
  · refine funext fun a => Fin.ext ?_
    fin_cases a
    · show win0_6.index t (0 : Fin 2) * 32 + 1 * (g : ℕ) = g
      omega
    · show win0_6.index t (1 : Fin 2) * 128 + 1 * (r : ℕ) = 128 * t.val + r
      omega
  · pointwise []

/-! The block functions at a grid point are the whole-array functions at the point's rows. -/

theorem mN_at (t : Fin cfg0.N) (r : Fin 128) (j : Fin 4096) :
    mN (b2 m c t) (b3 m c t) (b4 m c t) r j = wM (aG m c) (aMc m c) (aMs m c) (rowOf t r) j := by
  unfold mN wM
  rw [b2_at, b3_at, b4_at]

theorem vN_at (t : Fin cfg0.N) (r : Fin 128) (j : Fin 4096) :
    vN (b2 m c t) (b5 m c t) (b6 m c t) r j = wV (aG m c) (aVc m c) (aVs m c) (rowOf t r) j := by
  unfold vN wV
  rw [b2_at, b5_at, b6_at]

theorem aM_at (t : Fin cfg0.N) (r : Fin 128) (g : Fin 32) :
    aM (b2 m c t) (b3 m c t) (b4 m c t) r g * lit 0x3B124925#32 = wA (aG m c) (aMc m c) (aMs m c) (rowOf t r) g := by
  unfold aM wA
  simp only [mN_at]

theorem aV_at (t : Fin cfg0.N) (r : Fin 128) (g : Fin 32) :
    aV (b2 m c t) (b5 m c t) (b6 m c t) r g * lit 0x37924925#32 = wB (aG m c) (aVc m c) (aVs m c) (rowOf t r) g := by
  unfold aV wB
  simp only [vN_at]

/-- The point of row `r`, and its row there. -/
def ptOf (r : Fin 11264) : Fin cfg0.N := ⟨r / 128, lt_of_lt_of_eq (by omega : (r : ℕ) / 128 < 88) N_0.symm⟩

theorem row_pt (r : Fin 11264) (l : Fin 128) (hl : (l : ℕ) = r % 128) : rowOf (ptOf r) l = r := by
  apply Fin.ext
  show 128 * ((r : ℕ) / 128) + (l : ℕ) = r
  omega

/-- The sweep's contents at point `t`. -/
theorem acc_eq (t : Fin cfg0.N) (n : ℕ) (h : 0 + n < cfg0.N) (hn : n = t.val) :
    Pipeline.accAt (fun n h => Value.stAt0 m c n h Value.junk0) (Value.stAt0 m c) 0 n h = outsAt0 m c t.val t.isLt := by
  subst hn
  exact (Value.outsAt0_sweep m c t.val t.isLt).symm

section
variable (hS : ∀ i, ∃ s : ℝ, aMs m c i = (s : EReal)) (hT : ∀ i, ∃ s : ℝ, aVs m c i = (s : EReal))
include hS hT

/-- What every point leaves, the scales being finite. -/
theorem leaves_of (t : Fin cfg0.N) : Leaves m c t (outsAt0 m c t.val t.isLt) := by
  refine leaves m c (fun t i => ?_) (fun t i => ?_) t.val t.isLt
  · obtain ⟨g, r, rfl⟩ : ∃ (g : Fin 32) (r : Fin 128), i = ix2 g r := ⟨i 0, i 1, by ext a; fin_cases a <;> rfl⟩
    rw [b4_at]
    exact hS _
  · obtain ⟨g, r, rfl⟩ : ∃ (g : Fin 32) (r : Fin 128), i = ix2 g r := ⟨i 0, i 1, by ext a; fin_cases a <;> rfl⟩
    rw [b6_at]
    exact hT _

/-- The update. -/
theorem whole7 (r : Fin 11264) (j : Fin 4096) : Value.G7 m c (ix2 r j)
    = kDelta (Named.named (F := Ideal) κ "lr_decay" (φ := .f32) 0x3727C5AC#32) (wM (aG m c) (aMc m c) (aMs m c) r j)
        (wV (aG m c) (aVc m c) (aVs m c) r j) (aP m c (ix2 r j)) (tOf (aT m c ix0)) := by
  have hp : Value.pt7Of (ix2 r j) = (ptOf r).val := by
    show 1 * ((r : ℕ) / 128 - 0) + 1 * ((j : ℕ) / 4096 - 0) = (r : ℕ) / 128
    omega
  have hl : Value.loc7Of (ix2 r j) = ix2 (n0 := 128) (n1 := 4096) ⟨r % 128, by omega⟩ j := by
    funext a
    apply Fin.ext
    fin_cases a
    · rfl
    · show (j : ℕ) % 4096 = j
      omega
  unfold Value.G7
  rw [dif_pos (by rw [hp]; exact (ptOf r).isLt), hl, acc_eq m c (ptOf r) _ _ hp, (leaves_of m c hS hT (ptOf r)).out7]
  unfold G7
  show kDelta _ (mN _ _ _ ⟨r % 128, _⟩ j) (vN _ _ _ ⟨r % 128, _⟩ j) (b1 m c (ptOf r) (ix2 ⟨r % 128, _⟩ j)) _ = _
  rw [mN_at, vN_at, b1_at, b0_at, row_pt r _ rfl]

/-- The first moment's codes. -/
theorem whole8 (r : Fin 11264) (j : Fin 4096) : Value.G8 m c (ix2 r j)
    = min (lit 0x43E00000#32) (max (lit 0xC3E00000#32)
        (wM (aG m c) (aMc m c) (aMs m c) r j * kInv (wA (aG m c) (aMc m c) (aMs m c) r ⟨j / 128, by omega⟩))) := by
  have hp : Value.pt8Of (ix2 r j) = (ptOf r).val := by
    show 1 * ((r : ℕ) / 128 - 0) + 1 * ((j : ℕ) / 4096 - 0) = (r : ℕ) / 128
    omega
  have hl : Value.loc8Of (ix2 r j) = ix2 (n0 := 128) (n1 := 4096) ⟨r % 128, by omega⟩ j := by
    funext a
    apply Fin.ext
    fin_cases a
    · rfl
    · show (j : ℕ) % 4096 = j
      omega
  unfold Value.G8
  rw [dif_pos (by rw [hp]; exact (ptOf r).isLt), hl, acc_eq m c (ptOf r) _ _ hp, (leaves_of m c hS hT (ptOf r)).out8]
  unfold G8
  show min _ (max _ (mN _ _ _ ⟨r % 128, _⟩ j * kInv (aM _ _ _ ⟨r % 128, _⟩ ⟨j / 128, _⟩ * _))) = _
  rw [mN_at, aM_at, row_pt r _ rfl]

/-- The second moment's codes. -/
theorem whole10 (r : Fin 11264) (j : Fin 4096) : Value.G10 m c (ix2 r j)
    = min (max (wV (aG m c) (aVc m c) (aVs m c) r j) 0 * kInv (wB (aG m c) (aVc m c) (aVs m c) r ⟨j / 128, by omega⟩))
        (lit 0x47600000#32) := by
  have hp : Value.pt10Of (ix2 r j) = (ptOf r).val := by
    show 1 * ((r : ℕ) / 128 - 0) + 1 * ((j : ℕ) / 4096 - 0) = (r : ℕ) / 128
    omega
  have hl : Value.loc10Of (ix2 r j) = ix2 (n0 := 128) (n1 := 4096) ⟨r % 128, by omega⟩ j := by
    funext a
    apply Fin.ext
    fin_cases a
    · rfl
    · show (j : ℕ) % 4096 = j
      omega
  unfold Value.G10
  rw [dif_pos (by rw [hp]; exact (ptOf r).isLt), hl, acc_eq m c (ptOf r) _ _ hp, (leaves_of m c hS hT (ptOf r)).out10]
  unfold G10
  show min (max (vN _ _ _ ⟨r % 128, _⟩ j) 0 * kInv (aV _ _ _ ⟨r % 128, _⟩ ⟨j / 128, _⟩ * _)) _ = _
  rw [vN_at, aV_at, row_pt r _ rfl]

/-- The first moment's scales. -/
theorem whole9 (g : Fin 32) (r : Fin 11264) : Value.G9 m c (ix2 g r) = kScale (wA (aG m c) (aMc m c) (aMs m c) r g) := by
  have hp : Value.pt9Of (ix2 g r) = (ptOf r).val := by
    show 88 * ((g : ℕ) / 32 - 0) + 1 * ((r : ℕ) / 128 - 0) = (r : ℕ) / 128
    omega
  have hl : Value.loc9Of (ix2 g r) = ix2 (n0 := 32) (n1 := 128) g ⟨r % 128, by omega⟩ := by
    funext a
    apply Fin.ext
    fin_cases a
    · show (g : ℕ) % 32 = g
      omega
    · rfl
  unfold Value.G9
  rw [dif_pos (by rw [hp]; exact (ptOf r).isLt), hl, acc_eq m c (ptOf r) _ _ hp, (leaves_of m c hS hT (ptOf r)).out9]
  unfold G9
  show kScale (aM _ _ _ ⟨r % 128, _⟩ g * _) = _
  rw [aM_at, row_pt r _ rfl]

/-- The second moment's scales. -/
theorem whole11 (g : Fin 32) (r : Fin 11264) : Value.G11 m c (ix2 g r) = kScale (wB (aG m c) (aVc m c) (aVs m c) r g) := by
  have hp : Value.pt11Of (ix2 g r) = (ptOf r).val := by
    show 88 * ((g : ℕ) / 32 - 0) + 1 * ((r : ℕ) / 128 - 0) = (r : ℕ) / 128
    omega
  have hl : Value.loc11Of (ix2 g r) = ix2 (n0 := 32) (n1 := 128) g ⟨r % 128, by omega⟩ := by
    funext a
    apply Fin.ext
    fin_cases a
    · show (g : ℕ) % 32 = g
      omega
    · rfl
  unfold Value.G11
  rw [dif_pos (by rw [hp]; exact (ptOf r).isLt), hl, acc_eq m c (ptOf r) _ _ hp, (leaves_of m c hS hT (ptOf r)).out11]
  unfold G11
  show kScale (aV _ _ _ ⟨r % 128, _⟩ g * _) = _
  rw [aV_at, row_pt r _ rfl]

end

end Cert.Adam

end
-- ==== Proof.RefMoments.lean ====
/-
  The reference's two new moments and their groups' greatest magnitudes, read at an index.
-/
module

public import proofs.«01_k».proof.Proof.Gen.ReferenceIdeal.Value
public import proofs.«01_k».proof.Proof.Scale
public import proofs.«01_k».proof.Proof.Delta
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen

namespace Cert.Adam

variable (G : Vec Ideal S11264x4096 .bf16) (M : Vec Ideal S11264x4096 .fp8e4m3) (S : Vec Ideal S11264x32 .f32)
variable (V : Vec Ideal S11264x4096 .fp8e5m2) (T : Vec Ideal S11264x32 .f32) (P : Vec Ideal S11264x4096 .f32)
variable (r : Fin 11264)

/-- The reference's new first moment. -/
def rM (c : Fin 4096) : EReal :=
  lit 0x3F666666#32 * (M (ix2 r c) * S (ix2 r ⟨c / 128, by omega⟩)) + lit 0x3DCCCCCD#32 * G (ix2 r c)

/-- The reference's new second moment, its positive part. -/
def rV (c : Fin 4096) : EReal :=
  max (lit 0x3F7FBE77#32 * (V (ix2 r c) * T (ix2 r ⟨c / 128, by omega⟩))
    + lit 0x3A83126F#32 * (G (ix2 r c) * G (ix2 r c))) 0

/-- Column `j` of group `g`. -/
abbrev gcol (g : Fin 32) (j : Fin 128) : Fin 4096 := ⟨128 * g + j, by omega⟩

/-- The greatest magnitude along the last axis, times a constant. -/
theorem amax_at {n0 n1 n2 : ℕ} (u : FVec Ideal ⟨3, ![n0, n1, n2]⟩ .f32) (b k : BitVec 32)
    (h : (⟨3, ![n0, n1, n2]⟩ : Shape).Reduces [2] ⟨2, ![n0, n1]⟩) (hφ hb) (i : Fin n0) (g : Fin n1) :
    mulf (multiReduction .maximumf [2] ⟨2, ![n0, n1]⟩ (absf u) b h hφ hb)
        (broadcast ⟨2, ![n0, n1]⟩ (Scalar.ofBits (F := Ideal) .f32 k)) (ix2 i g)
      = Finset.fold max (lit b) (fun j : Fin n2 => FloatOps.absf (F := Ideal) (φ := .f32) (u (ix3 i g j))) Finset.univ * lit k := by
  pointwise []

theorem col_div (g : Fin 32) (j : Fin 128) (h : (gcol g j : ℕ) / 128 < 32) : (⟨(gcol g j : ℕ) / 128, h⟩ : Fin 32) = g :=
  Fin.ext (show (128 * (g : ℕ) + j) / 128 = g by omega)

theorem col_comm (g : Fin 32) (j : Fin 128) (h : (g : ℕ) * 128 + j < 4096) : (⟨(g : ℕ) * 128 + j, h⟩ : Fin 4096) = gcol g j :=
  Fin.ext (show (g : ℕ) * 128 + j = 128 * g + j by omega)

theorem pay5_at (g : Fin 32) (j : Fin 128) : k0_pay5 G M S (ix3 r g j) = rM G M S r (gcol g j) := by
  unfold rM
  rw [col_div]
  pointwise [k0_pay5, k0_pay4]
  rw [col_comm]

theorem pay6_at (g : Fin 32) (j : Fin 128) : k0_pay6 G V T (ix3 r g j) = rV G V T r (gcol g j) := by
  unfold rV
  rw [col_div]
  pointwise [k0_pay6, k0_pay4]
  rw [col_comm]

/-- The greatest magnitude of the first moment in a group, over the format's greatest number. -/
def rA (g : Fin 32) : EReal :=
  Finset.fold max (lit 0xFF800000#32)
    (fun j : Fin 128 => FloatOps.absf (F := Ideal) (φ := .f32) (rM G M S r (gcol g j))) Finset.univ * lit 0x3B124925#32

/-- The same of the second moment. -/
def rB (g : Fin 32) : EReal :=
  Finset.fold max (lit 0xFF800000#32)
    (fun j : Fin 128 => FloatOps.absf (F := Ideal) (φ := .f32) (rV G V T r (gcol g j))) Finset.univ * lit 0x37924925#32

theorem pay7_at (g : Fin 32) : k0_pay7 G M S (ix2 r g) = rA G M S r g := by
  unfold rA
  simp only [← pay5_at]
  generalize hu : k0_pay5 G M S = u
  have h := amax_at u 0xFF800000#32 0x3B124925#32 reduces_S11264x32x128_S11264x32 (.inl rfl) rfl r g
  rw [← h, ← hu]
  clear h
  unfold k0_pay7
  exact Eq.refl _

theorem pay12_at (g : Fin 32) : k0_pay12 (k0_pay6 G V T) (ix2 r g) = rB G V T r g := by
  unfold rB
  simp only [← pay6_at]
  generalize k0_pay6 G V T = u
  have h := amax_at u 0xFF800000#32 0x37924925#32 reduces_S11264x32x128_S11264x32 (.inl rfl) rfl r g
  rw [← h]
  clear h
  unfold k0_pay12
  exact Eq.refl _

end Cert.Adam
-- ==== Proof.Moments.lean ====
/-
  The kernel's moments, groups' magnitudes and codes against the reference's, over the extended reals.
-/
module

public import proofs.«01_k».proof.Proof.Whole
public import proofs.«01_k».proof.Proof.RefMoments

@[expose] public section

set_option maxRecDepth 16384

noncomputable section

open Idealize.ShloMosaic
open Cert.KernelIdeal

namespace Cert.Adam

variable (G : Vec Ideal S11264x4096 .bf16) (M : Vec Ideal S11264x4096 .fp8e4m3) (S : Vec Ideal S11264x32 .f32)
variable (V : Vec Ideal S11264x4096 .fp8e5m2) (T : Vec Ideal S11264x32 .f32)
variable (r : Fin 11264)

/-- The new first moments agree. -/
theorem rM_eq (c : Fin 4096) : rM G M S r c = wM G M S r c := by
  unfold rM wM
  rw [mul_comm (lit 0x3F666666#32) (_ * _), mul_assoc]

/-- The new second moments agree, the reference's being the positive part. -/
theorem rV_eq (c : Fin 4096) : rV G V T r c = max (wV G V T r c) 0 := by
  unfold rV wV
  rw [mul_comm (lit 0x3F7FBE77#32) (_ * _), mul_assoc]

/-- A group's greatest first moment agrees. -/
theorem rA_eq (g : Fin 32) : rA G M S r g = wA G M S r g := by
  unfold rA wA
  simp only [rM_eq]

/-- The magnitude of a number that is not negative. -/
theorem absf_max (x : EReal) : FloatOps.absf (F := Ideal) (φ := .f32) (max x 0) = max x 0 := by
  show max (max x 0) (-(max x 0)) = max x 0
  have h : (0 : EReal) ≤ max x 0 := le_max_right _ _
  exact max_eq_left ((EReal.neg_le_zero.mpr h).trans h)

/-- A group's greatest second moment agrees. -/
theorem rB_eq (g : Fin 32) : rB G V T r g = wB G V T r g := by
  unfold rB wB
  simp only [rV_eq, absf_max]

/-- The inverse scale is not negative. -/
theorem refInv_nonneg (x : EReal) : 0 ≤ refInv x := by
  unfold refInv
  generalize isNormal x = b
  unfold Scalar.select
  split
  · generalize lit 0x00000000#32 - refExp x = y
    induction y with
    | bot => exact le_rfl
    | top => exact le_top
    | coe y => exact EReal.coe_nonneg.mpr (Real.rpow_nonneg (by norm_num) _)
  · rw [lit_one]; exact zero_le_one

/-- The second moment's code is never below zero, so the reference's lower bound has no effect. -/
theorem code_eq (w x : EReal) :
    min (lit 0x47600000#32) (max 0 (max w 0 * refInv x)) = min (max w 0 * kInv x) (lit 0x47600000#32) := by
  rw [(scale_inv x).2, max_eq_right (mul_nonneg (le_max_right w 0) (refInv_nonneg x)), min_comm]

end Cert.Adam
-- ==== Proof.RefScales.lean ====
/-
  The reference's scales and inverse scales at an index, in terms of the group's greatest magnitude.
-/
module

public import proofs.«01_k».proof.Proof.Gen.ReferenceIdeal.Value
public import proofs.«01_k».proof.Proof.Scale
public import proofs.«01_k».proof.Proof.Delta
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen

namespace Cert.Adam

variable (G : Vec Ideal S11264x4096 .bf16) (M : Vec Ideal S11264x4096 .fp8e4m3) (S : Vec Ideal S11264x32 .f32)
variable (V : Vec Ideal S11264x4096 .fp8e5m2) (T : Vec Ideal S11264x32 .f32) (P : Vec Ideal S11264x4096 .f32)
variable (r : Fin 11264)

/-- The quotient of two logarithms, element by element. -/
theorem quot_at {s : Shape} (x : FVec Ideal s .f32) (k : BitVec 32) (i : s.Idx) :
    divf (log x) (log (broadcast s (Scalar.ofBits (F := Ideal) .f32 k))) i = Ideal.div (Ideal.log (x i)) (Ideal.log (lit k)) := rfl

/-- The exponent, element by element. -/
theorem expo_at {s : Shape} (x : FVec Ideal s .f32) (k b : BitVec 32) (i : s.Idx) :
    addf (floor (divf (log x) (log (broadcast s (Scalar.ofBits (F := Ideal) .f32 k))))) (broadcast s (Scalar.ofBits (F := Ideal) .f32 b)) i
      = Ideal.liftRound Int.floor (Ideal.div (Ideal.log (x i)) (Ideal.log (lit k))) + lit b := rfl

theorem pay8_at (g : Fin 32) :
    k0_pay8 G M S (ix2 r g) = Ideal.div (Ideal.log (k0_pay7 G M S (ix2 r g))) (Ideal.log (lit 0x40000000#32)) := by
  unfold k0_pay8
  generalize k0_pay7 G M S = x
  exact quot_at x _ _

theorem pay13_at (w : FVec Ideal S11264x32x128 .f32) (g : Fin 32) :
    k0_pay13 w (ix2 r g) = refExp (k0_pay12 w (ix2 r g)) := by
  unfold k0_pay13 refExp
  generalize k0_pay12 w = x
  exact expo_at x _ _ _

/-- Both scales in terms of the exponent. -/
theorem refScale_of (x y : EReal) (h : y = Ideal.div (Ideal.log x) (Ideal.log (lit 0x40000000#32))) :
    Scalar.select (IntOp.andi (BitVec.ofBool (decide (lit 0x00800000#32 ≤ x))) (BitVec.ofBool (decide (x < lit 0x7E800000#32))))
        (FloatOps.exp2 (F := Ideal) (φ := .f32) (Ideal.liftRound Int.floor y + 1)) (1 : EReal) = refScale x := by
  subst h
  unfold refScale refExp isNormal
  rw [lit_one]
  rfl

theorem refInv_of (x y : EReal) (h : y = Ideal.div (Ideal.log x) (Ideal.log (lit 0x40000000#32))) :
    Scalar.select (IntOp.andi (BitVec.ofBool (decide (lit 0x00800000#32 ≤ x))) (BitVec.ofBool (decide (x < lit 0x7E800000#32))))
        (FloatOps.exp2 (F := Ideal) (φ := .f32) (0 - (Ideal.liftRound Int.floor y + 1))) (1 : EReal) = refInv x := by
  subst h
  unfold refInv refExp isNormal
  rw [lit_one, lit_zero]
  rfl

/-- The first moment's scales. -/
theorem refScaleM_at (x y : FVec Ideal S11264x32 .f32) (g : Fin 32)
    (h : y (ix2 r g) = Ideal.div (Ideal.log (x (ix2 r g))) (Ideal.log (lit 0x40000000#32))) :
    k0_pay1 (k0_pay11 x y) (ix2 g r) = refScale (x (ix2 r g)) := by
  rw [← refScale_of _ _ h]
  pointwise [k0_pay1, k0_pay11, k0_pay9, k0_pay10]

theorem invM_at (x y : FVec Ideal S11264x32 .f32) (g : Fin 32)
    (h : y (ix2 r g) = Ideal.div (Ideal.log (x (ix2 r g))) (Ideal.log (lit 0x40000000#32))) :
    k0_pay17 x y (ix3 r g 0) = refInv (x (ix2 r g)) := by
  rw [← refInv_of _ _ h]
  pointwise [k0_pay17, k0_pay9, k0_pay10]

/-- A power of two where the number is in range, and one elsewhere, element by element. -/
theorem pick_at {s : Shape} (x z : FVec Ideal s .f32) (a b o : BitVec 32) (i : s.Idx) :
    select (andi (cmpf .oge x (broadcast s (Scalar.ofBits (F := Ideal) .f32 a))) (cmpf .olt x (broadcast s (Scalar.ofBits (F := Ideal) .f32 b))))
        (exp2 z) (broadcast s (Scalar.ofBits (F := Ideal) .f32 o)) i
      = Scalar.select (IntOp.andi (Ideal.cmp .oge (x i) (lit a)) (Ideal.cmp .olt (x i) (lit b))) (Ideal.exp2 (z i)) (lit o) := rfl

/-- The same of the inverse power, rounded to bf16 and back. -/
theorem pickInv_at {s : Shape} (x z : FVec Ideal s .f32) (a b o n : BitVec 32) (i : s.Idx) :
    extf .f32 (truncf .bf16 (select (andi (cmpf .oge x (broadcast s (Scalar.ofBits (F := Ideal) .f32 a)))
          (cmpf .olt x (broadcast s (Scalar.ofBits (F := Ideal) .f32 b))))
        (exp2 (subf (broadcast s (Scalar.ofBits (F := Ideal) .f32 n)) z)) (broadcast s (Scalar.ofBits (F := Ideal) .f32 o)))
        bitsLt_bf16_f32) bitsLt_bf16_f32 i
      = Scalar.select (IntOp.andi (Ideal.cmp .oge (x i) (lit a)) (Ideal.cmp .olt (x i) (lit b)))
          (Ideal.exp2 (lit n - z i)) (lit o) := rfl

theorem pay15_at (w : FVec Ideal S11264x32x128 .f32) (g : Fin 32) :
    k0_pay15 w (ix2 r g) = refScale (k0_pay12 w (ix2 r g)) := by
  unfold refScale isNormal
  rw [← pay13_at]
  unfold k0_pay15 k0_pay14
  exact pick_at (k0_pay12 w) (k0_pay13 w) _ _ _ _

/-- The transpose that the second moment's scales leave by. -/
theorem pay3_at (x : FVec Ideal S11264x32 .f32) (g : Fin 32) : k0_pay3 x (ix2 g r) = x (ix2 r g) := by
  pointwise [k0_pay3]

/-- The second moment's scales. -/
theorem refScaleV_at (w : FVec Ideal S11264x32x128 .f32) (g : Fin 32) :
    k0_pay3 (k0_pay15 w) (ix2 g r) = refScale (k0_pay12 w (ix2 r g)) :=
  (pay3_at r _ g).trans (pay15_at r w g)

theorem invV_at (w : FVec Ideal S11264x32x128 .f32) (g : Fin 32) :
    k0_pay16 w (ix2 r g) = refInv (k0_pay12 w (ix2 r g)) := by
  unfold refInv isNormal
  rw [← pay13_at]
  unfold k0_pay16 k0_pay14
  generalize k0_pay13 w = z
  generalize k0_pay12 w = x
  exact pickInv_at x z 0x00800000#32 0x7E800000#32 0x3F800000#32 0x00000000#32 (ix2 r g)

end Cert.Adam
-- ==== Proof.RefStores.lean ====
/-
  The reference's codes and parameter update at an index, in terms of the moments.
-/
module

public import proofs.«01_k».proof.Proof.Gen.ReferenceIdeal.Value
public import proofs.«01_k».proof.Proof.Scale
public import proofs.«01_k».proof.Proof.Delta
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen

namespace Cert.Adam

variable (G : Vec Ideal S11264x4096 .bf16) (M : Vec Ideal S11264x4096 .fp8e4m3) (S : Vec Ideal S11264x32 .f32)
variable (V : Vec Ideal S11264x4096 .fp8e5m2) (T : Vec Ideal S11264x32 .f32) (P : Vec Ideal S11264x4096 .f32)
variable (r : Fin 11264)

/-- The group of column `c`, and its place there. -/
abbrev gOf (c : Fin 4096) : Fin 32 := ⟨c / 128, by omega⟩
abbrev jOf (c : Fin 4096) : Fin 128 := ⟨c % 128, by omega⟩

/-- The first moment's codes. -/
theorem codesM_at (u : FVec Ideal S11264x32x128 .f32) (w : FVec Ideal S11264x32x1 .f32) (c : Fin 4096) :
    k0_pay20 u w (ix2 r c)
      = min (lit 0x43E00000#32) (max (lit 0xC3E00000#32) (u (ix3 r (gOf c) (jOf c)) * w (ix3 r (gOf c) 0))) := by
  pointwise [k0_pay20]

/-- The second moment's codes. -/
theorem codesV_at (u : FVec Ideal S11264x32x128 .f32) (w : FVec Ideal S11264x32 .f32) (c : Fin 4096) :
    k0_pay2 (k0_pay18 u w) (ix2 r c)
      = min (lit 0x47600000#32) (max 0 (u (ix3 r (gOf c) (jOf c)) * w (ix2 r (gOf c)))) := by
  pointwise [k0_pay2, k0_pay18]

/-- The parameter update. -/
theorem update_at (u v : FVec Ideal S11264x32x128 .f32) (t : BitVec 32) (c : Fin 4096) :
    k0_pay19 u v t P (ix2 r c)
      = refDelta (Named.named (F := Ideal) κ "decay" (φ := .f32) 0x3C23D70A#32) (u (ix3 r (gOf c) (jOf c)))
          (v (ix3 r (gOf c) (jOf c))) (P (ix2 r c)) (FloatOps.sitofp (F := Ideal) .f32 t) := by
  unfold refDelta bc
  rw [lit_one]
  pointwise [k0_pay19]

end Cert.Adam
-- ==== Proof.RefArrays.lean ====
/-
  The reference's five result arrays: each is the payload of its one store, at the argument arrays.
-/
module

public import proofs.«01_k».proof.Proof.Gen.ReferenceIdeal.Value
public import proofs.«01_k».proof.Proof.Consts
public import Idealize.ShloMosaic.Lib.Pointwise
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Cert.ReferenceIdeal Cert.ReferenceIdeal.Gen

namespace Cert.Adam.Ref

variable (m : (ℓ : Loc nD τ sig) → Buf (Elt Ideal) ℓ) (c : Dev nD)

/-- The argument arrays. -/
abbrev aP : Vec Ideal S11264x4096 .f32 := m ((c : Thread nD τ).loc main_arg0)
abbrev aG : Vec Ideal S11264x4096 .bf16 := m ((c : Thread nD τ).loc main_arg1)
abbrev aMc : Vec Ideal S11264x4096 .fp8e4m3 := m ((c : Thread nD τ).loc main_arg2)
abbrev aMs : Vec Ideal S11264x32 .f32 := m ((c : Thread nD τ).loc main_arg3)
abbrev aVc : Vec Ideal S11264x4096 .fp8e5m2 := m ((c : Thread nD τ).loc main_arg4)
abbrev aVs : Vec Ideal S11264x32 .f32 := m ((c : Thread nD τ).loc main_arg5)
abbrev aT : Vec Ideal S_ .i32 := m ((c : Thread nD τ).loc main_arg6)

/-- Every window starts at the array's first element. -/
theorem idx : ∀ t : Fin cfg0.N, win0_0.index t = ![0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem iblk1 : iblk m c 1 t0_0 = aP m c := by
  blk_ext! [iblk, V, idx t0_0]

theorem iblk2 : iblk m c 2 t0_0 = aG m c := by
  blk_ext! [iblk, V, idx t0_0]

theorem iblk3 : iblk m c 3 t0_0 = aMc m c := by
  blk_ext! [iblk, V, idx t0_0]

theorem iblk4 : iblk m c 4 t0_0 = aMs m c := by
  blk_ext! [iblk, V, idx t0_0]

theorem iblk5 : iblk m c 5 t0_0 = aVc m c := by
  blk_ext! [iblk, V, idx t0_0]

theorem iblk6 : iblk m c 6 t0_0 = aVs m c := by
  blk_ext! [iblk, V, idx t0_0]

/-- The step count, reshaped to one element by the host. -/
theorem V_step : V m c main_v0 = shapeCast S1 (aT m c) shapeCasts_S_S1 := by
  show StableHlo.after hostOps0 _ _ = _
  after_reads_simp
  rfl

theorem iblk0 (i : S1.Idx) : iblk m c 0 t0_0 i = aT m c ix0 := by
  refine (congrArg (V m c main_v0) (?_ : _ = ix1 0)).trans ((congrFun (V_step m c) _).trans ?_)
  · refine funext fun a => Fin.ext ?_
    fin_cases a
    exact Nat.lt_one_iff.mp (Fin.isLt _)
  · pointwise []

abbrev moM : FVec Ideal S11264x32x128 .f32 := k0_pay5 (aG m c) (aMc m c) (aMs m c)
abbrev moV : FVec Ideal S11264x32x128 .f32 := k0_pay6 (aG m c) (aVc m c) (aVs m c)
abbrev xM : FVec Ideal S11264x32 .f32 := k0_pay7 (aG m c) (aMc m c) (aMs m c)
abbrev yM : FVec Ideal S11264x32 .f32 := k0_pay8 (aG m c) (aMc m c) (aMs m c)

theorem arr7 : (dats m 0 c).arrAt 7 cfg0.N = k0_pay19 (moM m c) (moV m c) (aT m c ix0) (aP m c) := by
  refine (dats m 0 c).arrAt_eq_of_after_last 7 t0_0 (by decide +kernel) _ fun j => ?_
  blk_simp
  rw [after0_7]
  unfold outsAt0
  frame_out
  erw [(hstage0_2 0).read_unread]
  erw [(hstage0_3 0).read_unread]
  erw [(hstage0_4 0).read_unread]
  erw [(hstage0_5 0).read_unread]
  erw [(hstage0_6 0).read_unread]
  erw [(hstage0_1 0).read_unread]
  erw [(hstage0_0 0).read_unread]
  rw [iblk2, iblk3, iblk4, iblk5, iblk6, iblk1, iblk0]

theorem arr8 : (dats m 0 c).arrAt 8 cfg0.N = k0_pay20 (moM m c) (k0_pay17 (xM m c) (yM m c)) := by
  refine (dats m 0 c).arrAt_eq_of_after_last 8 t0_0 (by decide +kernel) _ fun j => ?_
  blk_simp
  rw [after0_8]
  unfold outsAt0
  frame_out
  erw [(hstage0_2 0).read_unread]
  erw [(hstage0_3 0).read_unread]
  erw [(hstage0_4 0).read_unread]
  rw [iblk2, iblk3, iblk4]

theorem arr9 : (dats m 0 c).arrAt 9 cfg0.N = k0_pay1 (k0_pay11 (xM m c) (yM m c)) := by
  refine (dats m 0 c).arrAt_eq_of_after_last 9 t0_0 (by decide +kernel) _ fun j => ?_
  blk_simp
  rw [after0_9]
  unfold outsAt0
  frame_out
  erw [(hstage0_2 0).read_unread]
  erw [(hstage0_3 0).read_unread]
  erw [(hstage0_4 0).read_unread]
  rw [iblk2, iblk3, iblk4]

theorem arr10 : (dats m 0 c).arrAt 10 cfg0.N = k0_pay2 (k0_pay18 (moV m c) (k0_pay16 (moV m c))) := by
  refine (dats m 0 c).arrAt_eq_of_after_last 10 t0_0 (by decide +kernel) _ fun j => ?_
  blk_simp
  rw [after0_10]
  unfold outsAt0
  frame_out
  erw [(hstage0_2 0).read_unread]
  erw [(hstage0_5 0).read_unread]
  erw [(hstage0_6 0).read_unread]
  rw [iblk2, iblk5, iblk6]

theorem arr11 : (dats m 0 c).arrAt 11 cfg0.N = k0_pay3 (k0_pay15 (moV m c)) := by
  refine (dats m 0 c).arrAt_eq_of_after_last 11 t0_0 (by decide +kernel) _ fun j => ?_
  blk_simp
  rw [after0_11]
  unfold outsAt0
  frame_out
  erw [(hstage0_2 0).read_unread]
  erw [(hstage0_5 0).read_unread]
  erw [(hstage0_6 0).read_unread]
  rw [iblk2, iblk5, iblk6]

end Cert.Adam.Ref
-- ==== Proof.RefResults.lean ====
/-
  The reference's five results at an index, as functions of the argument arrays.
-/
module

public import proofs.«01_k».proof.Proof.RefMoments
public import proofs.«01_k».proof.Proof.RefScales
public import proofs.«01_k».proof.Proof.RefStores
public import proofs.«01_k».proof.Proof.RefArrays

@[expose] public section

set_option maxRecDepth 16384

noncomputable section

open Idealize.ShloMosaic Idealize.ShloMosaic.TcCoe Idealize.SL.Sem
open Cert.ReferenceIdeal Cert.ReferenceIdeal.Gen

namespace Cert.Adam.Ref

variable (m : (ℓ : Loc nD τ sig) → Buf (Elt Ideal) ℓ) (c : Dev nD) (r : Fin 11264)

theorem col_split (j : Fin 4096) : gcol (gOf j) (jOf j) = j :=
  Fin.ext (show 128 * ((j : ℕ) / 128) + j % 128 = j by omega)

theorem moM_at (j : Fin 4096) : moM m c (ix3 r (gOf j) (jOf j)) = rM (aG m c) (aMc m c) (aMs m c) r j := by
  rw [moM, pay5_at, col_split]

theorem moV_at (j : Fin 4096) : moV m c (ix3 r (gOf j) (jOf j)) = rV (aG m c) (aVc m c) (aVs m c) r j := by
  rw [moV, pay6_at, col_split]

theorem yM_at (g : Fin 32) :
    yM m c (ix2 r g) = Ideal.div (Ideal.log (xM m c (ix2 r g))) (Ideal.log (lit 0x40000000#32)) := pay8_at _ _ _ r g

/-- The parameter update. -/
theorem ref7 (j : Fin 4096) :
    (show Vec Ideal S11264x4096 .f32 from (dats m 0 c).arrAt 7 cfg0.N) (ix2 r j)
      = refDelta (Named.named (F := Ideal) κ "decay" (φ := .f32) 0x3C23D70A#32) (rM (aG m c) (aMc m c) (aMs m c) r j)
          (rV (aG m c) (aVc m c) (aVs m c) r j) (aP m c (ix2 r j)) (FloatOps.sitofp (F := Ideal) .f32 (aT m c ix0)) := by
  refine (congrFun (arr7 m c) (ix2 r j)).trans ?_
  rw [update_at, moM_at, moV_at]

/-- The first moment's codes. -/
theorem ref8 (j : Fin 4096) :
    (show Vec Ideal S11264x4096 .fp8e4m3 from (dats m 0 c).arrAt 8 cfg0.N) (ix2 r j)
      = min (lit 0x43E00000#32) (max (lit 0xC3E00000#32)
          (rM (aG m c) (aMc m c) (aMs m c) r j * refInv (rA (aG m c) (aMc m c) (aMs m c) r (gOf j)))) := by
  refine (congrFun (arr8 m c) (ix2 r j)).trans ?_
  rw [codesM_at, moM_at, invM_at r _ _ _ (yM_at m c r _), xM, pay7_at]

/-- The first moment's scales. -/
theorem ref9 (g : Fin 32) :
    (show Vec Ideal S32x11264 .f32 from (dats m 0 c).arrAt 9 cfg0.N) (ix2 g r)
      = refScale (rA (aG m c) (aMc m c) (aMs m c) r g) := by
  refine (congrFun (arr9 m c) (ix2 g r)).trans ?_
  rw [refScaleM_at r _ _ _ (yM_at m c r _), xM, pay7_at]

/-- The second moment's codes. -/
theorem ref10 (j : Fin 4096) :
    (show Vec Ideal S11264x4096 .fp8e5m2 from (dats m 0 c).arrAt 10 cfg0.N) (ix2 r j)
      = min (lit 0x47600000#32) (max 0
          (rV (aG m c) (aVc m c) (aVs m c) r j * refInv (rB (aG m c) (aVc m c) (aVs m c) r (gOf j)))) := by
  refine (congrFun (arr10 m c) (ix2 r j)).trans ?_
  rw [codesV_at, moV_at, invV_at, pay12_at]

/-- The second moment's scales. -/
theorem ref11 (g : Fin 32) :
    (show Vec Ideal S32x11264 .f32 from (dats m 0 c).arrAt 11 cfg0.N) (ix2 g r)
      = refScale (rB (aG m c) (aVc m c) (aVs m c) r g) := by
  refine (congrFun (arr11 m c) (ix2 g r)).trans ?_
  rw [refScaleV_at, pay12_at]

end Cert.Adam.Ref
-- ==== Proof.Start.lean ====
/-
  What the precondition says: the parameters and both scales are real numbers, and the step count is at least one.
-/
module

public import proofs.«01_k».proof.Proof.Gen.Pre_finite_and_started
public import proofs.«01_k».proof.Proof.Consts
public import Idealize.ShloMosaic.Lib.Pointwise

@[expose] public section

noncomputable section

open Idealize.ShloMosaic
open Cert.Pre_finite_and_started

namespace Cert.Adam

attribute [local instance] Cert.Pre_finite_and_started.Gen.facts

/-- A number of magnitude below infinity is real. -/
theorem real_of_abs {x : EReal} (h : FloatOps.cmpf (F := Ideal) (φ := .f32) .olt (FloatOps.absf (F := Ideal) (φ := .f32) x) (lit 0x7F800000#32) = 1#1) :
    ∃ s : ℝ, x = (s : EReal) := by
  have h' : max x (-x) < lit (pat 255) := by
    by_contra hn
    have : Ideal.cmp .olt (max x (-x)) (lit 0x7F800000#32) = 0#1 := by
      unfold Ideal.cmp
      exact congrArg BitVec.ofBool (decide_eq_false hn)
    exact absurd (this.symm.trans h) (by decide)
  rw [lit_pat_top] at h'
  induction x with
  | bot => simp at h'
  | top => simp at h'
  | coe x => exact ⟨x, rfl⟩

variable (P : FVec Ideal S11264x4096 .f32) (G : FVec Ideal S11264x4096 .bf16) (M : FVec Ideal S11264x4096 .fp8e4m3)
variable (S : FVec Ideal S11264x32 .f32) (V : FVec Ideal S11264x4096 .fp8e5m2) (T : FVec Ideal S11264x32 .f32) (t : IVec S_ 32)

theorem real_P (h : (fn P G M S V T t).1 = fun _ => 1#1) (i : S11264x4096.Idx) : ∃ s : ℝ, P i = (s : EReal) := by
  refine real_of_abs ((?_ : _ = (fn P G M S V T t).1 i).trans (congrFun h i))
  rfl

theorem real_S (h : (fn P G M S V T t).2.1 = fun _ => 1#1) (i : S11264x32.Idx) : ∃ s : ℝ, S i = (s : EReal) := by
  refine real_of_abs ((?_ : _ = (fn P G M S V T t).2.1 i).trans (congrFun h i))
  rfl

theorem real_T (h : (fn P G M S V T t).2.2.1 = fun _ => 1#1) (i : S11264x32.Idx) : ∃ s : ℝ, T i = (s : EReal) := by
  refine real_of_abs ((?_ : _ = (fn P G M S V T t).2.2.1 i).trans (congrFun h i))
  rfl

/-- The step count as a real number, at least one. -/
theorem started (h : (fn P G M S V T t).2.2.2 = fun _ => 1#1) :
    ∃ s : ℝ, 1 ≤ s ∧ FloatOps.sitofp (F := Ideal) .f32 (t ix0) = (s : EReal) := by
  have h1 : IntOp.cmpi .sge (t ix0) 1#32 = 1#1 := (?_ : _ = (fn P G M S V T t).2.2.2 ix0).trans (congrFun h ix0)
  · refine ⟨((t ix0).toInt : ℝ), ?_, rfl⟩
    have h2 : (1#32).toInt ≤ (t ix0).toInt := by
      by_contra hn
      have : IntOp.cmpi .sge (t ix0) 1#32 = 0#1 := by
        show BitVec.ofBool ((1#32).sle (t ix0)) = 0#1
        rw [BitVec.sle_eq_decide, decide_eq_false hn]; rfl
      exact absurd (this.symm.trans h1) (by decide)
    have h3 : (1 : ℤ) ≤ (t ix0).toInt := h2
    exact_mod_cast h3
  · rfl

end Cert.Adam
-- ==== Proof.Equal.lean ====
/-
  The kernel's five results are the reference's, from memories that agree on the arguments.
-/
module

public import proofs.«01_k».proof.Proof.Moments
public import proofs.«01_k».proof.Proof.RefResults
public import proofs.«01_k».proof.Proof.Start

@[expose] public section

set_option maxRecDepth 16384

noncomputable section

open Idealize.ShloMosaic Idealize.ShloMosaic.TcCoe Idealize.SL.Sem

namespace Cert.Adam

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

variable (c : Dev Cert.KernelIdeal.nD)

/-- Two matrices with equal entries are equal. -/
theorem ext2 {n0 n1 : ℕ} (f g : (⟨2, ![n0, n1]⟩ : Shape).Idx → EReal) (h : ∀ i j, f (ix2 i j) = g (ix2 i j)) : f = g :=
  funext fun i => (congrArg f (eq_ix2 i)).trans ((h (i 0) (i 1)).trans (congrArg g (eq_ix2 i)).symm)

/-- The two memories hold the same arguments on a device. -/
structure Agree : Prop where
  P : Ref.aP m' c = aP m c
  G : Ref.aG m' c = aG m c
  Mc : Ref.aMc m' c = aMc m c
  Ms : Ref.aMs m' c = aMs m c
  Vc : Ref.aVc m' c = aVc m c
  Vs : Ref.aVs m' c = aVs m c
  T : Ref.aT m' c = aT m c

/-- The parameters and both scales are real, and the step count is at least one. -/
structure Started : Prop where
  P : ∀ i, ∃ s : ℝ, aP m c i = (s : EReal)
  Ms : ∀ i, ∃ s : ℝ, aMs m c i = (s : EReal)
  Vs : ∀ i, ∃ s : ℝ, aVs m c i = (s : EReal)
  T : ∃ t : ℝ, 1 ≤ t ∧ tOf (aT m c ix0) = (t : EReal)

variable {m m' c}

theorem named_ld : Named.named (F := Ideal) Cert.KernelIdeal.κ "lr_decay" (φ := .f32) 0x3727C5AC#32 = ((1 / 100000 : ℝ) : EReal) :=
  rfl

theorem named_wd : Named.named (F := Ideal) Cert.ReferenceIdeal.κ "decay" (φ := .f32) 0x3C23D70A#32
    = ((268435456 / 26843546875 : ℝ) : EReal) :=
  rfl

/-- The parameter updates are equal. -/
theorem equal7 (h : Agree m m' c) (s : Started m c) :
    (Cert.ReferenceIdeal.Gen.dats m' 0 c).arrAt 7 Cert.ReferenceIdeal.cfg0.N = Cert.KernelIdeal.Value.G7 m c := by
  refine ext2 (n0 := 11264) (n1 := 4096) _ _ fun r j => ?_
  refine (Ref.ref7 m' c r j).trans (Eq.trans ?_ (whole7 m c s.Ms s.Vs r j).symm)
  obtain ⟨p, hp⟩ := s.P (ix2 r j)
  obtain ⟨t, h1, ht⟩ := s.T
  rw [h.P, h.G, h.Mc, h.Ms, h.Vc, h.Vs, h.T, rM_eq, rV_eq, hp, named_ld, named_wd]
  refine Eq.trans ?_ ((congrArg (kDelta _ _ _ _) ht).trans (delta_eq (wd := 268435456 / 26843546875) (by norm_num [lr]) _ _ p h1)).symm
  exact congrArg (refDelta _ _ _ _) ht

/-- The first moment's codes are equal. -/
theorem equal8 (h : Agree m m' c) (s : Started m c) :
    (Cert.ReferenceIdeal.Gen.dats m' 0 c).arrAt 8 Cert.ReferenceIdeal.cfg0.N = Cert.KernelIdeal.Value.G8 m c := by
  refine ext2 (n0 := 11264) (n1 := 4096) _ _ fun r j => ?_
  refine (Ref.ref8 m' c r j).trans (Eq.trans ?_ (whole8 m c s.Ms s.Vs r j).symm)
  rw [h.G, h.Mc, h.Ms, rM_eq, rA_eq, (scale_inv _).2]

/-- The first moment's scales are equal. -/
theorem equal9 (h : Agree m m' c) (s : Started m c) :
    (Cert.ReferenceIdeal.Gen.dats m' 0 c).arrAt 9 Cert.ReferenceIdeal.cfg0.N = Cert.KernelIdeal.Value.G9 m c := by
  refine ext2 (n0 := 32) (n1 := 11264) _ _ fun g r => ?_
  refine (Ref.ref9 m' c r g).trans (Eq.trans ?_ (whole9 m c s.Ms s.Vs g r).symm)
  rw [h.G, h.Mc, h.Ms, rA_eq, (scale_inv _).1]

/-- The second moment's codes are equal. -/
theorem equal10 (h : Agree m m' c) (s : Started m c) :
    (Cert.ReferenceIdeal.Gen.dats m' 0 c).arrAt 10 Cert.ReferenceIdeal.cfg0.N = Cert.KernelIdeal.Value.G10 m c := by
  refine ext2 (n0 := 11264) (n1 := 4096) _ _ fun r j => ?_
  refine (Ref.ref10 m' c r j).trans (Eq.trans ?_ (whole10 m c s.Ms s.Vs r j).symm)
  rw [h.G, h.Vc, h.Vs, rV_eq, rB_eq, code_eq]

/-- The second moment's scales are equal. -/
theorem equal11 (h : Agree m m' c) (s : Started m c) :
    (Cert.ReferenceIdeal.Gen.dats m' 0 c).arrAt 11 Cert.ReferenceIdeal.cfg0.N = Cert.KernelIdeal.Value.G11 m c := by
  refine ext2 (n0 := 32) (n1 := 11264) _ _ fun g r => ?_
  refine (Ref.ref11 m' c r g).trans (Eq.trans ?_ (whole11 m c s.Ms s.Vs g r).symm)
  rw [h.G, h.Vc, h.Vs, rB_eq, (scale_inv _).1]

end Cert.Adam
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_finite_and_started
public import Idealize.ShloMosaic.Adequacy
public import Idealize.ShloMosaic.Init
public import proofs.«01_k».proof.Proof.Gen.KernelIdeal.Value
public import proofs.«01_k».proof.Proof.Gen.ReferenceIdeal.Value
public import proofs.«01_k».proof.Proof.Equal

@[expose] public section

noncomputable section

namespace Cert.Proof

open Idealize.ShloMosaic Idealize.ShloMosaic.TcCoe Idealize.SL.Sem Cert.Adam

attribute [local instance] Cert.KernelIdeal.Gen.facts Cert.ReferenceIdeal.Gen.facts Cert.Pre_finite_and_started.Gen.facts

/-- From memories that agree on the arguments, where the parameters and the scales are finite and the step count is at
    least one, the kernel and the reference leave the same five results. -/
theorem algebraic : Cert.algebraic_KernelIdeal_ReferenceIdeal_pre_finite_and_started := by
  intro m g m' g' hpre hagree
  have hA : ∀ c, Agree m m' c := fun c =>
    ⟨(hagree c).1, (hagree c).2.1, (hagree c).2.2.1, (hagree c).2.2.2.1, (hagree c).2.2.2.2.1, (hagree c).2.2.2.2.2.1,
      (hagree c).2.2.2.2.2.2⟩
  have hS : ∀ c, Started m c := fun c =>
    ⟨real_P _ _ _ _ _ _ _ (hpre c).1, real_S _ _ _ _ _ _ _ (hpre c).2.1, real_T _ _ _ _ _ _ _ (hpre c).2.2.1,
      started _ _ _ _ _ _ _ (hpre c).2.2.2⟩
  refine ⟨Cert.KernelIdeal.Value.G7 m, Cert.KernelIdeal.Value.G8 m, Cert.KernelIdeal.Value.G9 m,
    Cert.KernelIdeal.Value.G10 m, Cert.KernelIdeal.Value.G11 m, Cert.KernelIdeal.Value.run m g,
    (θ_run _ _ _).mono (fun r h c => ?_) (Cert.ReferenceIdeal.Value.run_blocks m' g')⟩
  obtain ⟨h0, h1, h2, h3, h4, hk⟩ := h c
  exact ⟨h0.trans (equal7 (hA c) (hS c)), h1.trans (equal8 (hA c) (hS c)), h2.trans (equal9 (hA c) (hS c)),
    h3.trans (equal10 (hA c) (hS c)), h4.trans (equal11 (hA c) (hS c)), hk⟩

/-- Every claim of the certificate. -/
theorem claim : Cert.Claim :=
  ⟨Cert.Kernel.Gen.facts, Cert.KernelIdeal.Gen.facts, Cert.ReferenceIdeal.Gen.facts, Cert.Reference.Gen.facts,
    Cert.Pre_finite_and_started.Gen.facts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    fun m ρ _ => Cert.Reference.Gen.frame m ρ,
    IdealRules.named_const.statement Cert.KernelIdeal.κ "lr_decay" .f32 0x3727C5AC#32 _ rfl,
    IdealRules.named_const.statement Cert.ReferenceIdeal.κ "decay" .f32 0x3C23D70A#32 _ rfl,
    algebraic⟩

end Cert.Proof

end
